-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_KernelIdeal [hPre_labels_in_range_KernelIdeal : Cert.Pre_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_ReferenceIdeal [hPre_labels_in_range_ReferenceIdeal : Cert.Pre_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_KernelIdeal [hKernelIdeal : Cert.KernelIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_ReferenceIdeal [hReferenceIdeal : Cert.ReferenceIdeal.Facts] [hPre_labels_in_range_ReferenceIdeal : Cert.Pre_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range_KernelIdeal [hKernelIdeal : Cert.KernelIdeal.Facts] [hReferenceIdeal : Cert.ReferenceIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 65536]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range_KernelIdeal : Cert.Pre_labels_in_range_KernelIdeal.Facts) (hPre_labels_in_range_ReferenceIdeal : Cert.Pre_labels_in_range_ReferenceIdeal.Facts),
    quiescent_Kernel (hKernel := hKernel)
    ∧ quiescent_KernelIdeal (hKernelIdeal := hKernelIdeal)
    ∧ quiescent_KernelIdeal_pre_labels_in_range_KernelIdeal (hKernelIdeal := hKernelIdeal) (hPre_labels_in_range_KernelIdeal := hPre_labels_in_range_KernelIdeal)
    ∧ quiescent_ReferenceIdeal (hReferenceIdeal := hReferenceIdeal)
    ∧ quiescent_ReferenceIdeal_pre_labels_in_range_ReferenceIdeal (hReferenceIdeal := hReferenceIdeal) (hPre_labels_in_range_ReferenceIdeal := hPre_labels_in_range_ReferenceIdeal)
    ∧ preserves_Kernel_KernelIdeal
    ∧ algebraic_KernelIdeal_ReferenceIdeal_pre_labels_in_range_KernelIdeal (hKernelIdeal := hKernelIdeal) (hReferenceIdeal := hReferenceIdeal) (hPre_labels_in_range_KernelIdeal := hPre_labels_in_range_KernelIdeal)
-- ==== Pre_labels_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .f32) (main_arg1 : FVec F S512x4096 .f32) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 65536#32
  let main_v2 : IVec S256 32 := broadcastInDim S256 ![] bcast_S_S256 main_c_0
  let main_v3 : IVec S256 1 := cmpi .slt main_arg2 main_v2
  let main_v4 : IVec S256 1 := andi main_v1 main_v3
  main_v4
-- ==== Pre_labels_in_range_ReferenceIdeal.lean ====
abbrev S256x512 : Shape := ⟨2, ![256, 512]⟩
abbrev S512x65536 : Shape := ⟨2, ![512, 65536]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .f32) (main_arg1 : FVec F S512x65536 .f32) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 65536#32
  let main_v2 : IVec S256 32 := broadcastInDim S256 ![] bcast_S_S256 main_c_0
  let main_v3 : IVec S256 1 := cmpi .slt main_arg2 main_v2
  let main_v4 : IVec S256 1 := andi main_v1 main_v3
  main_v4
-- ==== Kernel.lean ====
abbrev S256x512 : Shape := ⟨2, ![256, 512]⟩
abbrev S512x4096 : Shape := ⟨2, ![512, 4096]⟩
abbrev S256 : Shape := ⟨1, ![256]⟩
abbrev S16x3x256 : Shape := ⟨3, ![16, 3, 256]⟩
abbrev S2 : Shape := ⟨1, ![2]⟩
abbrev S3 : Shape := ⟨1, ![3]⟩
abbrev S_ : Shape := ⟨0, ![]⟩
abbrev S1 : Shape := ⟨1, ![1]⟩
abbrev S512x1024 : Shape := ⟨2, ![512, 1024]⟩
abbrev S512x1536 : Shape := ⟨2, ![512, 1536]⟩
abbrev S256x1024 : Shape := ⟨2, ![256, 1024]⟩
abbrev S256x1 : Shape := ⟨2, ![256, 1]⟩
abbrev S256x1536 : Shape := ⟨2, ![256, 1536]⟩
abbrev S1x256 : Shape := ⟨2, ![1, 256]⟩
abbrev S3x256 : Shape := ⟨2, ![3, 256]⟩
abbrev S1x3x256 : Shape := ⟨3, ![1, 3, 256]⟩
abbrev S16x1x256 : Shape := ⟨3, ![16, 1, 256]⟩
abbrev S16x256 : Shape := ⟨2, ![16, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S16x3x256, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v20 : BitVec 32 := Scalar.addi v2 c1_i32_13
  let c16_i32_14 : BitVec 32 := 16#32
  let v21 : BitVec 32 := Scalar.remsi v20 c16_i32_14
  let c1_i32_16 : BitVec 32 := 1#32
  let v22 : BitVec 32 := Scalar.muli v21 c1_i32_16
  let v23 : BitVec 32 := Scalar.addi c0_i32_17 v22
  v23.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_18 : BitVec 32 := 2#32
  let v24 : BitVec 32 := Scalar.addi v2 c2_i32_18
  let c16_i32_19 : BitVec 32 := 16#32
  let v25 : BitVec 32 := Scalar.remsi v24 c16_i32_19
  let c1_i32_21 : BitVec 32 := 1#32
  let v26 : BitVec 32 := Scalar.muli v25 c1_i32_21
  let v27 : BitVec 32 := Scalar.addi c0_i32_22 v26
  v27.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v28 : BitVec 32 := Scalar.addi v2 c3_i32
  let c16_i32_23 : BitVec 32 := 16#32
  let v29 : BitVec 32 := Scalar.remsi v28 c16_i32_23
  let c1_i32_25 : BitVec 32 := 1#32
  let v30 : BitVec 32 := Scalar.muli v29 c1_i32_25
  let v31 : BitVec 32 := Scalar.addi c0_i32_26 v30
  v31.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v32 : BitVec 32 := Scalar.addi v2 c4_i32
  let c16_i32_27 : BitVec 32 := 16#32
  let v33 : BitVec 32 := Scalar.remsi v32 c16_i32_27
  let c1_i32_29 : BitVec 32 := 1#32
  let v34 : BitVec 32 := Scalar.muli v33 c1_i32_29
  let v35 : BitVec 32 := Scalar.addi c0_i32_30 v34
  v35.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 32 := Scalar.addi v2 c5_i32
  let c16_i32_31 : BitVec 32 := 16#32
  let v37 : BitVec 32 := Scalar.remsi v36 c16_i32_31
  let c1_i32_33 : BitVec 32 := 1#32
  let v38 : BitVec 32 := Scalar.muli v37 c1_i32_33
  let v39 : BitVec 32 := Scalar.addi c0_i32_34 v38
  v39.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v40 : BitVec 32 := Scalar.addi v2 c6_i32
  let c16_i32_35 : BitVec 32 := 16#32
  let v41 : BitVec 32 := Scalar.remsi v40 c16_i32_35
  let c1_i32_37 : BitVec 32 := 1#32
  let v42 : BitVec 32 := Scalar.muli v41 c1_i32_37
  let v43 : BitVec 32 := Scalar.addi c0_i32_38 v42
  v43.toNat
def k0_dev7 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v44 : BitVec 32 := Scalar.addi v2 c7_i32
  let c16_i32_39 : BitVec 32 := 16#32
  let v45 : BitVec 32 := Scalar.remsi v44 c16_i32_39
  let c1_i32_41 : BitVec 32 := 1#32
  let v46 : BitVec 32 := Scalar.muli v45 c1_i32_41
  let v47 : BitVec 32 := Scalar.addi c0_i32_42 v46
  v47.toNat
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.addi v2 c8_i32
  let c16_i32_43 : BitVec 32 := 16#32
  let v49 : BitVec 32 := Scalar.remsi v48 c16_i32_43
  let c1_i32_45 : BitVec 32 := 1#32
  let v50 : BitVec 32 := Scalar.muli v49 c1_i32_45
  let v51 : BitVec 32 := Scalar.addi c0_i32_46 v50
  v51.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v52 : BitVec 32 := Scalar.addi v2 c9_i32
  let c16_i32_47 : BitVec 32 := 16#32
  let v53 : BitVec 32 := Scalar.remsi v52 c16_i32_47
  let c1_i32_49 : BitVec 32 := 1#32
  let v54 : BitVec 32 := Scalar.muli v53 c1_i32_49
  let v55 : BitVec 32 := Scalar.addi c0_i32_50 v54
  v55.toNat
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v56 : BitVec 32 := Scalar.addi v2 c10_i32
  let c16_i32_51 : BitVec 32 := 16#32
  let v57 : BitVec 32 := Scalar.remsi v56 c16_i32_51
  let c1_i32_53 : BitVec 32 := 1#32
  let v58 : BitVec 32 := Scalar.muli v57 c1_i32_53
  let v59 : BitVec 32 := Scalar.addi c0_i32_54 v58
  v59.toNat
def k0_dev11 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v60 : BitVec 32 := Scalar.addi v2 c11_i32
  let c16_i32_55 : BitVec 32 := 16#32
  let v61 : BitVec 32 := Scalar.remsi v60 c16_i32_55
  let c1_i32_57 : BitVec 32 := 1#32
  let v62 : BitVec 32 := Scalar.muli v61 c1_i32_57
  let v63 : BitVec 32 := Scalar.addi c0_i32_58 v62
  v63.toNat
def k0_dev12 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v64 : BitVec 32 := Scalar.addi v2 c12_i32
  let c16_i32_59 : BitVec 32 := 16#32
  let v65 : BitVec 32 := Scalar.remsi v64 c16_i32_59
  let c1_i32_61 : BitVec 32 := 1#32
  let v66 : BitVec 32 := Scalar.muli v65 c1_i32_61
  let v67 : BitVec 32 := Scalar.addi c0_i32_62 v66
  v67.toNat
def k0_dev13 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v68 : BitVec 32 := Scalar.addi v2 c13_i32
  let c16_i32_63 : BitVec 32 := 16#32
  let v69 : BitVec 32 := Scalar.remsi v68 c16_i32_63
  let c1_i32_65 : BitVec 32 := 1#32
  let v70 : BitVec 32 := Scalar.muli v69 c1_i32_65
  let v71 : BitVec 32 := Scalar.addi c0_i32_66 v70
  v71.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v72 : BitVec 32 := Scalar.addi v2 c14_i32
  let c16_i32_67 : BitVec 32 := 16#32
  let v73 : BitVec 32 := Scalar.remsi v72 c16_i32_67
  let c1_i32_69 : BitVec 32 := 1#32
  let v74 : BitVec 32 := Scalar.muli v73 c1_i32_69
  let v75 : BitVec 32 := Scalar.addi c0_i32_70 v74
  v75.toNat
def k0_dev15 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v76 : BitVec 32 := Scalar.addi v2 c15_i32
  let c16_i32_71 : BitVec 32 := 16#32
  let v77 : BitVec 32 := Scalar.remsi v76 c16_i32_71
  let c1_i32_73 : BitVec 32 := 1#32
  let v78 : BitVec 32 := Scalar.muli v77 c1_i32_73
  let v79 : BitVec 32 := Scalar.addi c0_i32_74 v78
  v79.toNat
def k0_dev16 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_122 : BitVec 32 := 15#32
  let v196 : BitVec 32 := Scalar.addi v2 c15_i32_122
  let c16_i32_123 : BitVec 32 := 16#32
  let v197 : BitVec 32 := Scalar.remsi v196 c16_i32_123
  let c1_i32_126 : BitVec 32 := 1#32
  let v198 : BitVec 32 := Scalar.muli v197 c1_i32_126
  let v199 : BitVec 32 := Scalar.addi c0_i32_127 v198
  v199.toNat
def k0_dev17 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_132 : BitVec 32 := 14#32
  let v204 : BitVec 32 := Scalar.addi v2 c14_i32_132
  let c16_i32_133 : BitVec 32 := 16#32
  let v205 : BitVec 32 := Scalar.remsi v204 c16_i32_133
  let c1_i32_136 : BitVec 32 := 1#32
  let v206 : BitVec 32 := Scalar.muli v205 c1_i32_136
  let v207 : BitVec 32 := Scalar.addi c0_i32_137 v206
  v207.toNat
def k0_dev18 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_142 : BitVec 32 := 13#32
  let v212 : BitVec 32 := Scalar.addi v2 c13_i32_142
  let c16_i32_143 : BitVec 32 := 16#32
  let v213 : BitVec 32 := Scalar.remsi v212 c16_i32_143
  let c1_i32_146 : BitVec 32 := 1#32
  let v214 : BitVec 32 := Scalar.muli v213 c1_i32_146
  let v215 : BitVec 32 := Scalar.addi c0_i32_147 v214
  v215.toNat
def k0_dev19 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_152 : BitVec 32 := 12#32
  let v220 : BitVec 32 := Scalar.addi v2 c12_i32_152
  let c16_i32_153 : BitVec 32 := 16#32
  let v221 : BitVec 32 := Scalar.remsi v220 c16_i32_153
  let c1_i32_156 : BitVec 32 := 1#32
  let v222 : BitVec 32 := Scalar.muli v221 c1_i32_156
  let v223 : BitVec 32 := Scalar.addi c0_i32_157 v222
  v223.toNat
def k0_dev20 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_162 : BitVec 32 := 11#32
  let v228 : BitVec 32 := Scalar.addi v2 c11_i32_162
  let c16_i32_163 : BitVec 32 := 16#32
  let v229 : BitVec 32 := Scalar.remsi v228 c16_i32_163
  let c1_i32_166 : BitVec 32 := 1#32
  let v230 : BitVec 32 := Scalar.muli v229 c1_i32_166
  let v231 : BitVec 32 := Scalar.addi c0_i32_167 v230
  v231.toNat
def k0_dev21 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_172 : BitVec 32 := 10#32
  let v236 : BitVec 32 := Scalar.addi v2 c10_i32_172
  let c16_i32_173 : BitVec 32 := 16#32
  let v237 : BitVec 32 := Scalar.remsi v236 c16_i32_173
  let c1_i32_176 : BitVec 32 := 1#32
  let v238 : BitVec 32 := Scalar.muli v237 c1_i32_176
  let v239 : BitVec 32 := Scalar.addi c0_i32_177 v238
  v239.toNat
def k0_dev22 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_182 : BitVec 32 := 9#32
  let v244 : BitVec 32 := Scalar.addi v2 c9_i32_182
  let c16_i32_183 : BitVec 32 := 16#32
  let v245 : BitVec 32 := Scalar.remsi v244 c16_i32_183
  let c1_i32_186 : BitVec 32 := 1#32
  let v246 : BitVec 32 := Scalar.muli v245 c1_i32_186
  let v247 : BitVec 32 := Scalar.addi c0_i32_187 v246
  v247.toNat
def k0_dev23 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_192 : BitVec 32 := 8#32
  let v252 : BitVec 32 := Scalar.addi v2 c8_i32_192
  let c16_i32_193 : BitVec 32 := 16#32
  let v253 : BitVec 32 := Scalar.remsi v252 c16_i32_193
  let c1_i32_196 : BitVec 32 := 1#32
  let v254 : BitVec 32 := Scalar.muli v253 c1_i32_196
  let v255 : BitVec 32 := Scalar.addi c0_i32_197 v254
  v255.toNat
def k0_dev24 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_202 : BitVec 32 := 7#32
  let v260 : BitVec 32 := Scalar.addi v2 c7_i32_202
  let c16_i32_203 : BitVec 32 := 16#32
  let v261 : BitVec 32 := Scalar.remsi v260 c16_i32_203
  let c1_i32_206 : BitVec 32 := 1#32
  let v262 : BitVec 32 := Scalar.muli v261 c1_i32_206
  let v263 : BitVec 32 := Scalar.addi c0_i32_207 v262
  v263.toNat
def k0_dev25 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_212 : BitVec 32 := 6#32
  let v268 : BitVec 32 := Scalar.addi v2 c6_i32_212
  let c16_i32_213 : BitVec 32 := 16#32
  let v269 : BitVec 32 := Scalar.remsi v268 c16_i32_213
  let c1_i32_216 : BitVec 32 := 1#32
  let v270 : BitVec 32 := Scalar.muli v269 c1_i32_216
  let v271 : BitVec 32 := Scalar.addi c0_i32_217 v270
  v271.toNat
def k0_dev26 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_222 : BitVec 32 := 5#32
  let v276 : BitVec 32 := Scalar.addi v2 c5_i32_222
  let c16_i32_223 : BitVec 32 := 16#32
  let v277 : BitVec 32 := Scalar.remsi v276 c16_i32_223
  let c1_i32_226 : BitVec 32 := 1#32
  let v278 : BitVec 32 := Scalar.muli v277 c1_i32_226
  let v279 : BitVec 32 := Scalar.addi c0_i32_227 v278
  v279.toNat
def k0_dev27 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v284 : BitVec 32 := Scalar.addi v2 c4_i32_232
  let c16_i32_233 : BitVec 32 := 16#32
  let v285 : BitVec 32 := Scalar.remsi v284 c16_i32_233
  let c1_i32_236 : BitVec 32 := 1#32
  let v286 : BitVec 32 := Scalar.muli v285 c1_i32_236
  let v287 : BitVec 32 := Scalar.addi c0_i32_237 v286
  v287.toNat
def k0_dev28 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_242 : BitVec 32 := 3#32
  let v292 : BitVec 32 := Scalar.addi v2 c3_i32_242
  let c16_i32_243 : BitVec 32 := 16#32
  let v293 : BitVec 32 := Scalar.remsi v292 c16_i32_243
  let c1_i32_246 : BitVec 32 := 1#32
  let v294 : BitVec 32 := Scalar.muli v293 c1_i32_246
  let v295 : BitVec 32 := Scalar.addi c0_i32_247 v294
  v295.toNat
def k0_dev29 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_252 : BitVec 32 := 2#32
  let v300 : BitVec 32 := Scalar.addi v2 c2_i32_252
  let c16_i32_253 : BitVec 32 := 16#32
  let v301 : BitVec 32 := Scalar.remsi v300 c16_i32_253
  let c1_i32_256 : BitVec 32 := 1#32
  let v302 : BitVec 32 := Scalar.muli v301 c1_i32_256
  let v303 : BitVec 32 := Scalar.addi c0_i32_257 v302
  v303.toNat
def k0_dev30 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_262 : BitVec 32 := 1#32
  let v308 : BitVec 32 := Scalar.addi v2 c1_i32_262
  let c16_i32_263 : BitVec 32 := 16#32
  let v309 : BitVec 32 := Scalar.remsi v308 c16_i32_263
  let c1_i32_266 : BitVec 32 := 1#32
  let v310 : BitVec 32 := Scalar.muli v309 c1_i32_266
  let v311 : BitVec 32 := Scalar.addi c0_i32_267 v310
  v311.toNat
-- ==== ReferenceIdeal.lean ====
abbrev S256x512 : Shape := ⟨2, ![256, 512]⟩
abbrev S512x65536 : Shape := ⟨2, ![512, 65536]⟩
abbrev S256 : Shape := ⟨1, ![256]⟩
abbrev S256x65536 : Shape := ⟨2, ![256, 65536]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x65536, .f32⟩
  | .hbm, ⟨2, _⟩ => ⟨S256, .i32⟩
  | .hbm, ⟨3, _⟩ => ⟨S256x65536, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x65536, .f32⟩
  | .hbm, ⟨8, _⟩ => ⟨S256x65536, .f32⟩
  | .hbm, ⟨9, _⟩ => ⟨S256x65536, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Mesh.lean ====
/-
The mesh of sixteen devices, the buffers and semaphores the kernel touches, and the geometry of the two buffers
that are worked on in pieces: the table of statistics (row `d` of device `c`'s table comes from the device `d`
places before it) and the weight block (copied in three column chunks).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Distances around the mesh

A distance is written `j : Fin 15` and stands for `j + 1` places. -/

/-- The device `j + 1` places after `c`. -/
def ahead (c : Dev nD) (j : Fin 15) : Dev nD := ⟨(c.val + (j.val + 1)) % 16, Nat.mod_lt _ (by decide)⟩
/-- The device `j + 1` places before `c`. -/
def behind (c : Dev nD) (j : Fin 15) : Dev nD := ⟨(c.val + (15 - j.val)) % 16, Nat.mod_lt _ (by decide)⟩
/-- The distance back: `j + 1` places after and then `flip j + 1` places after is once around. -/
def flip (j : Fin 15) : Fin 15 := ⟨14 - j.val, by omega⟩

theorem behind_ahead (c : Dev nD) (j : Fin 15) : behind (ahead c j) j = c := by
  have hc : c.val < 16 := c.isLt
  apply Fin.ext; simp only [behind, ahead]; omega
theorem ahead_behind (c : Dev nD) (j : Fin 15) : ahead (behind c j) j = c := by
  have hc : c.val < 16 := c.isLt
  apply Fin.ext; simp only [behind, ahead]; omega
theorem ahead_ahead_flip (c : Dev nD) (j : Fin 15) : ahead (ahead c j) (flip j) = c := by
  have hc : c.val < 16 := c.isLt
  apply Fin.ext; simp only [ahead, flip]; omega
theorem flip_flip (j : Fin 15) : flip (flip j) = j := by apply Fin.ext; simp only [flip]; omega

/-- Going `j + 1` places forward is a rearrangement of the devices. -/
def turn (j : Fin 15) : Dev nD ≃ Dev nD := ⟨fun c => ahead c j, fun c => behind c j, fun c => behind_ahead c j, fun c => ahead_behind c j⟩
/-- Reversing the distances is a rearrangement of them. -/
def flips : Fin 15 ≃ Fin 15 := ⟨flip, flip, flip_flip, flip_flip⟩

/-! ## Memrefs and semaphores -/

abbrev xH : Memref sig .tc .hbm S256x512 .f32 := Memref.whole main_arg0
abbrev wH : Memref sig .tc .hbm S512x4096 .f32 := Memref.whole main_arg1
abbrev lH : Memref sig .tc .hbm S256 .i32 := Memref.whole main_arg2
abbrev oH : Memref sig .tc .hbm S256 .f32 := Memref.whole main_v1
abbrev xV : Memref sig .tc .vmem S256x512 .f32 := Memref.whole cc0_scratch0
abbrev wV : Memref sig .tc .vmem S512x4096 .f32 := Memref.whole cc0_scratch1
abbrev lV : Memref sig .tc .vmem S256 .i32 := Memref.whole cc0_scratch2
abbrev oV : Memref sig .tc .vmem S256 .f32 := Memref.whole cc0_scratch3
abbrev tab : Memref sig .tc .vmem S16x3x256 .bf16 := Memref.whole cc0_scratch4

/-- The runtime's barrier semaphore. -/
abbrev barS : Sem sig := (SemArray.scalar (sig.barrier 0 rfl) : Sems sig S_).sem
/-- The semaphore the sends complete on, at the sender; and the one the landings complete on, at the receiver. -/
abbrev sendS : DmaSem sig := (cc0_scratch8 : DmaSems sig S_).sem
abbrev recvS : DmaSem sig := (cc0_scratch9 : DmaSems sig S_).sem
/-- The semaphores of the local copies: of `x`, of the labels, of the weight's three chunks, of the result. -/
abbrev xS : DmaSem sig := ((cc0_scratch5.slice (Rect.unit (s := S2) ![0] S1.size inb_S2_S1_0) : DmaSems sig S1).squeeze S_ squeezes_S1_S_).sem
abbrev lS : DmaSem sig := ((cc0_scratch5.slice (Rect.unit (s := S2) ![1] S1.size inb_S2_S1_1) : DmaSems sig S1).squeeze S_ squeezes_S1_S_).sem
abbrev w0S : DmaSem sig := ((cc0_scratch6.slice (Rect.unit (s := S3) ![0] S1.size inb_S3_S1_0) : DmaSems sig S1).squeeze S_ squeezes_S1_S_).sem
abbrev w1S : DmaSem sig := ((cc0_scratch6.slice (Rect.unit (s := S3) ![1] S1.size inb_S3_S1_1) : DmaSems sig S1).squeeze S_ squeezes_S1_S_).sem
abbrev w2S : DmaSem sig := ((cc0_scratch6.slice (Rect.unit (s := S3) ![2] S1.size inb_S3_S1_2) : DmaSems sig S1).squeeze S_ squeezes_S1_S_).sem
abbrev oS : DmaSem sig := (cc0_scratch7 : DmaSems sig S_).sem

/-! ## The rows of the table -/

theorem row_inb (r : Fin 16) : ∀ a, (![r.val, 0, 0] : Fin 3 → ℕ) a + S1x3x256.size a ≤ S16x3x256.size a := by
  intro a; have := r.isLt; fin_cases a <;> simp [S1x3x256, S16x3x256] <;> omega

/-- Row `r` of the table, as the kernel's transfers name it. -/
abbrev rowM (r : Fin 16) : Memref sig .tc .vmem S3x256 .bf16 :=
  (tab.slice (Rect.unit (s := S16x3x256) ![r.val, 0, 0] S1x3x256.size (row_inb r)) (fun _ => rfl)).squeeze S3x256 squeezes_S1x3x256_S3x256

/-- The elements of row `r`. -/
abbrev rowSet (r : Fin 16) : Finset S16x3x256.Idx := (rowM r).view.set

theorem mem_rowSet (r : Fin 16) (i : S16x3x256.Idx) : i ∈ rowSet r ↔ (i 0).val = r.val := by
  have hs : rowSet r = (Rect.unit (s := S16x3x256) ![r.val, 0, 0] S1x3x256.size (row_inb r)).set :=
    (View.set_reshape _ _).trans (View.set_slice_whole _ _)
  rw [hs, Rect.mem_set_unit]
  constructor
  · intro h; have := h 0; simp [S1x3x256] at this; omega
  · intro h a
    have h1 : (i 1).val < 3 := (i 1).isLt
    have h2 : (i 2).val < 256 := (i 2).isLt
    fin_cases a <;> simp [S1x3x256] <;> omega

theorem rowSet_disjoint {r r' : Fin 16} (h : r ≠ r') : Disjoint (rowSet r) (rowSet r') :=
  Finset.disjoint_left.mpr fun i hi hi' => h (Fin.ext (((mem_rowSet r i).mp hi).symm.trans ((mem_rowSet r' i).mp hi')))

/-- The other fifteen rows. -/
def tailSet : Finset S16x3x256.Idx := Finset.univ.biUnion fun j : Fin 15 => rowSet j.succ

theorem row_tail_disjoint : Disjoint (rowSet 0) tailSet :=
  (Finset.disjoint_biUnion_right _ _ _).mpr fun j _ => rowSet_disjoint (Fin.succ_ne_zero j).symm

theorem row_tail : rowSet 0 ∪ tailSet = Finset.univ := by
  ext i
  have hi : (i 0).val < 16 := (i 0).isLt
  refine ⟨fun _ => Finset.mem_univ _, fun _ => Finset.mem_union.mpr ?_⟩
  by_cases h : (i 0).val = 0
  · exact Or.inl ((mem_rowSet 0 i).mpr h)
  · refine Or.inr (Finset.mem_biUnion.mpr ⟨⟨(i 0).val - 1, by omega⟩, Finset.mem_univ _, (mem_rowSet _ i).mpr ?_⟩)
    show (i 0).val = (i 0).val - 1 + 1
    omega

/-- What a transfer into any row counts. -/
abbrev N : ℕ := (rowM 0).view.dmaCredit
theorem N_pos : 0 < N := View.dmaCredit_pos _ (by decide)
theorem credit_row (r : Fin 16) : (rowM r).view.dmaCredit = N := rfl

end Cert.Own

end
-- ==== Proof.Contents.lean ====
/-
What the buffers hold: each device's statistics as the kernel computes them from the device's own blocks, the table
every device ends up with, and the result it computes from that table; and what the copies and the store do to the
buffers' contents.
-/
module

public import proofs.«01_k».proof.Proof.Mesh

@[expose] public section

noncomputable section

namespace Cert.Own

open Cert.KernelIdeal Cert.KernelIdeal.Gen

open Idealize.ShloMosaic
open Idealize.ShloMosaic.TcCoe
open Idealize.SL Idealize.SL.Sem

variable {F : FTy → Type} [FloatOps F]

/-! ## The weight's three column chunks -/

abbrev wR0 : Rect S512x4096 := Rect.unit (s := S512x4096) ![0, 0] S512x1024.size inb_S512x4096_S512x1024_0_0
abbrev wR1 : Rect S512x4096 := Rect.unit (s := S512x4096) ![0, 1024] S512x1536.size inb_S512x4096_S512x1536_0_1024
abbrev wR2 : Rect S512x4096 := Rect.unit (s := S512x4096) ![0, 2560] S512x1536.size inb_S512x4096_S512x1536_0_2560

theorem wR_disjoint : Disjoint wR0.set wR1.set ∧ Disjoint (wR0.set ∪ wR1.set) wR2.set := by
  refine ⟨Finset.disjoint_left.mpr fun i h h' => ?_, Finset.disjoint_left.mpr fun i h h' => ?_⟩
  · have h1 := Rect.mem_set_unit.mp h 1; have h2 := Rect.mem_set_unit.mp h' 1
    simp [S512x1024] at h1 h2; omega
  · have h2 := Rect.mem_set_unit.mp h' 1
    rcases Finset.mem_union.mp h with h | h
    · have h1 := Rect.mem_set_unit.mp h 1
      simp [S512x1024] at h1 h2; omega
    · have h1 := Rect.mem_set_unit.mp h 1
      simp [S512x1536] at h1 h2; omega

theorem wR_cover : (wR0.set ∪ wR1.set) ∪ wR2.set = Finset.univ := by
  ext i
  have h0 : (i 0).val < 512 := (i 0).isLt
  have h1 : (i 1).val < 4096 := (i 1).isLt
  refine ⟨fun _ => Finset.mem_univ _, fun _ => ?_⟩
  rw [Finset.mem_union, Finset.mem_union, Rect.mem_set_unit, Rect.mem_set_unit, Rect.mem_set_unit]
  by_cases ha : (i 1).val < 1024
  · left; left; intro a; fin_cases a <;> simp [S512x1024] <;> omega
  by_cases hb : (i 1).val < 2560
  · left; right; intro a; fin_cases a <;> simp [S512x1536] <;> omega
  · right; intro a; fin_cases a <;> simp [S512x1536] <;> omega

/-- A chunk copied from the weight's array to its scratch buffer leaves the array's contents on that chunk. -/
theorem chunk_copied (r : Rect S512x4096) (hr : ∀ a, r.stride a = 1) (fd fs : S512x4096.Idx → Elt F .f32) (i : S512x4096.Idx) (hi : i ∈ r.set) :
    (wV.slice r hr).view.write (Elt F) fd ((ReadAs.same (Val := Elt F)).apply ((wH.slice r hr).view.read (Elt F) fs)) Finset.univ i = fs i := by
  rw [← Rect.map_emb_univ] at hi
  obtain ⟨x, -, rfl⟩ := Finset.mem_map.mp hi
  exact View.write_emb_of_mem (v := (wV.slice r hr).view) fd ((wH.slice r hr).view.read (Elt F) fs) (Finset.mem_univ x)

/-! ## The statistics a device computes -/

/-- The device's own place in the mesh, as the kernel computes it. -/
def place (c : Dev nD) : BitVec 32 := Scalar.remsi (Scalar.divsi (Dev.word c) 1#32) 16#32

/-- The columns of a weight block that a chunk holds. -/
abbrev chunk (r : Rect S512x4096) (W : Vec F S512x4096 .f32) : Vec F r.shape .f32 := wV.view.readAt (Elt F) r.toLoadRect W

/-- A device's running maximum, sum of exponentials and label logit, stacked. -/
def stats (c : Dev nD) (x : Vec F S256x512 .f32) (W : Vec F S512x4096 .f32) (lab : Vec F S256 .i32) : FVec F S3x256 .f32 :=
  k0_pay13 (k0_pay1 x) (k0_pay2 (place c) lab) (k0_pay5 x (chunk wR0 W)) (k0_pay6 (k0_pay2 (place c) lab) (k0_pay3 x (chunk wR0 W)) 0#32)
    (k0_pay7 (k0_pay4 x (chunk wR0 W))) (k0_pay10 (k0_pay1 x) (chunk wR1 W)) (k0_pay11 (k0_pay1 x) (k0_pay2 (place c) lab) (chunk wR1 W))
    (k0_pay12 (k0_pay1 x) (chunk wR1 W)) (chunk wR2 W)

variable (m : (ℓ : Loc nD τ sig) → Buf (Elt F) ℓ)

abbrev xOf (c : Dev nD) : Vec F S256x512 .f32 := m ((c : Thread nD τ).loc main_arg0)
abbrev wOf (c : Dev nD) : Vec F S512x4096 .f32 := m ((c : Thread nD τ).loc main_arg1)
abbrev labOf (c : Dev nD) : Vec F S256 .i32 := m ((c : Thread nD τ).loc main_arg2)

/-- A device's statistics in the type the table holds. -/
def packed (c : Dev nD) : FVec F S1x3x256 .bf16 := k0_pay14 (stats c (xOf m c) (wOf m c) (labOf m c))

/-- The device whose statistics row `r` of device `c`'s table holds: the one `r` places before it. -/
def rowSrc (c : Dev nD) (r : ℕ) : Dev nD := ⟨(c.val + (16 - r)) % 16, Nat.mod_lt _ (by decide)⟩

theorem rowSrc_zero (c : Dev nD) : rowSrc c 0 = c := by
  have hc : c.val < 16 := c.isLt
  apply Fin.ext; simp only [rowSrc]; show (c.val + 16) % 16 = c.val; omega
theorem rowSrc_ahead (c : Dev nD) (j : Fin 15) : rowSrc (ahead c j) (j.val + 1) = c := by
  have hc : c.val < 16 := c.isLt
  apply Fin.ext; simp only [rowSrc, ahead]; omega

/-- An index of the table, read inside its row. -/
def inRow (i : S16x3x256.Idx) : S1x3x256.Idx := fun a => ⟨if a = 0 then 0 else (i a).val, by
  have h1 : (i 1).val < 3 := (i 1).isLt
  have h2 : (i 2).val < 256 := (i 2).isLt
  fin_cases a
  · exact Nat.one_pos
  · exact h1
  · exact h2⟩

/-- The whole table of device `c` once every transfer has landed. -/
def tabOf (c : Dev nD) : S16x3x256.Idx → Elt F .bf16 := fun i => packed m (rowSrc c (i 0).val) (inRow i)

theorem tabOf_of (c : Dev nD) (i : S16x3x256.Idx) {r : ℕ} (h : (i 0).val = r) : tabOf m c i = packed m (rowSrc c r) (inRow i) := by
  subst h; rfl

/-- The store of its own statistics leaves row 0 of a device's table as it will be at the end. -/
theorem stored_row (c : Dev nD) (f : S16x3x256.Idx → Elt F .bf16) (i : S16x3x256.Idx) (hi : i ∈ rowSet 0) :
    (tab.access (Rect.unit (s := S16x3x256) ![0, 0, 0] S1x3x256.size inb_S16x3x256_S1x3x256_0_0_0)).write (Elt F) f (packed m c) Finset.univ i
      = tabOf m c i := by
  have h0 := (mem_rowSet 0 i).mp hi
  have hi' : i ∈ (Rect.unit (s := S16x3x256) ![0, 0, 0] S1x3x256.size inb_S16x3x256_S1x3x256_0_0_0).set := by
    rw [← View.set_slice_whole cc0_scratch4]; rw [← View.set_reshape (h := squeezes_S1x3x256_S3x256.numel_eq)]; exact hi
  rw [← Rect.map_emb_univ] at hi'
  obtain ⟨x, -, rfl⟩ := Finset.mem_map.mp hi'
  refine (View.write_emb_of_mem (v := tab.access (Rect.unit (s := S16x3x256) ![0, 0, 0] S1x3x256.size inb_S16x3x256_S1x3x256_0_0_0))
    f (packed m c) (Finset.mem_univ x)).trans (Eq.trans (show _ = packed m c x from rfl) (Eq.trans ?_ (tabOf_of m c _ h0).symm))
  rw [show ((0 : Fin 16).val) = 0 from rfl, rowSrc_zero]
  refine congrArg (packed m c) ?_
  funext a
  apply Fin.ext
  have hx0 : (x 0).val < 1 := (x 0).isLt
  fin_cases a
  · simp [inRow]; exact Nat.lt_one_iff.mp hx0
  · simp [inRow]
  · simp [inRow]

/-- A transfer of row 0 of device `c`'s table into row `j + 1` of the device `j + 1` places after it leaves that row as
    it will be at the end. -/
theorem sent_row (c : Dev nD) (j : Fin 15) (fd : S16x3x256.Idx → Elt F .bf16) (i : S16x3x256.Idx) (hi : i ∈ rowSet j.succ) :
    (rowM j.succ).view.write (Elt F) fd ((rowM 0).view.read (Elt F) (tabOf m c)) Finset.univ i = tabOf m (ahead c j) i := by
  have h0 := (mem_rowSet j.succ i).mp hi
  obtain ⟨x, -, rfl⟩ := Finset.mem_map.mp (show i ∈ Finset.univ.map (rowM j.succ).view.emb from hi)
  refine (View.write_emb_of_mem (v := (rowM j.succ).view) fd _ (Finset.mem_univ x)).trans ?_
  have hz := (mem_rowSet 0 ((rowM 0).view.emb x)).mp (View.emb_mem_set (rowM 0).view x)
  refine Eq.trans (show _ = tabOf m c ((rowM 0).view.emb x) from rfl) ?_
  refine (tabOf_of m c _ hz).trans (Eq.trans ?_ (tabOf_of m (ahead c j) _ h0).symm)
  rw [show ((0 : Fin 16).val) = 0 from rfl, rowSrc_zero, show (j.succ : Fin 16).val = j.val + 1 from rfl, rowSrc_ahead]
  refine congrArg (packed m c) ?_
  funext a
  apply Fin.ext
  fin_cases a
  · simp [inRow]
  · simp [inRow]; rfl
  · simp [inRow]; rfl

/-! ## The result -/

/-- One of the three statistics of all devices, read down the table. -/
abbrev col0 (f : S16x3x256.Idx → Elt F .bf16) : Vec F S16x1x256 .bf16 :=
  tab.view.readAt (Elt F) (Rect.unit (s := S16x3x256) ![0, 0, 0] S16x1x256.size inb_S16x3x256_S16x1x256_0_0_0).toLoadRect f
abbrev col1 (f : S16x3x256.Idx → Elt F .bf16) : Vec F S16x1x256 .bf16 :=
  tab.view.readAt (Elt F) (Rect.unit (s := S16x3x256) ![0, 1, 0] S16x1x256.size inb_S16x3x256_S16x1x256_0_1_0).toLoadRect f
abbrev col2 (f : S16x3x256.Idx → Elt F .bf16) : Vec F S16x1x256 .bf16 :=
  tab.view.readAt (Elt F) (Rect.unit (s := S16x3x256) ![0, 2, 0] S16x1x256.size inb_S16x3x256_S16x1x256_0_2_0).toLoadRect f

/-- The result device `c` computes from its finished table. -/
def outOf (c : Dev nD) : Vec F S256 .f32 :=
  k0_pay18 (k0_pay15 (col0 (tabOf m c))) (k0_pay16 (col1 (tabOf m c))) (k0_pay17 (col2 (tabOf m c)))

end Cert.Own

end
-- ==== Proof.Protocol.lean ====
/-
The cross-device protocol.

Every device has three cells that other devices pay into, each once, in fifteen equal parts, one part per distance:
* its barrier cell: the signal of the device `j + 1` places before it, carrying the row of that device's table which
  this device will write (its own row at the distance back);
* its landing cell: the transfer of the device `j + 1` places before it, carrying row `j + 1` of its own table, filled;
* its sending cell: its own `j`-th transfer done reading, carrying back the share of row 0 lent to it.
A device owes, from the start, one unit to each other device's barrier cell and one row's credit to each other device's
landing cell. Waits are on cells of level 1 (barrier) and 0 (local copies) while only landing cells, level 2, are owed.
-/
module

public import proofs.«01_k».proof.Proof.Contents
public import Idealize.ShloMosaic.Lib.Transfers

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's copy, the mesh's cells, the local copies' counters -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The mesh's cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ)

/-! ## Cells -/

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

abbrev csem : Fin 3 → SemLoc sig := fun | 0 => .reg barS | 1 => .dma sendS | 2 => .dma recvS
abbrev kcell (ck : Dev nD × Fin 3) : GSem nD τ sig := ((ck.1 : Thread nD τ), csem ck.2)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-! ## Payloads -/

/-- Row `r` of device `c`'s table at a share, holding `f`. -/
def rowPts (c : Dev nD) (r : Fin 16) (q : PosShare TreeShare) (f : S16x3x256.Idx → Elt F .bf16) : sProp 𝕄 :=
  (rowM r).view.loc (c : Thread nD τ) ↦[(rowM r).view.set]{q} (f : Buf (Elt F) ((rowM r).view.loc (c : Thread nD τ)))

instance rowPts_storable (c : Dev nD) (r : Fin 16) (q : PosShare TreeShare) (f) :
    BI.Storable (upEmb : UEmb _ 𝕄) (rowPts (F := F) c r q f) := by unfold rowPts; infer_instance

theorem rowPts_congr (c : Dev nD) (r : Fin 16) (q : PosShare TreeShare) {f g : S16x3x256.Idx → Elt F .bf16} (h : ∀ i ∈ rowSet r, f i = g i) :
    rowPts (F := F) c r q f = rowPts c r q g := by
  unfold rowPts; exact pointsTo_congr h

def barPay (c : Dev nD) (j : Fin 15) : sProp 𝕄 := iprop(∃ f, rowPts (ahead c (flip j)) (flip j).succ fullShare f)
def recvPay (c : Dev nD) (j : Fin 15) : sProp 𝕄 := rowPts c j.succ fullShare (tabOf m c)
def sendPay (c : Dev nD) (j : Fin 15) : sProp 𝕄 := rowPts c 0 (Transfers.shareTokN fullShare j.val) (tabOf m c)

/-! ## The schedule -/

/-- The cells of the protocol: the three kinds, on TensorCores. -/
abbrev IsCell (g : GSem nD τ sig) : Prop := g.1.2 = .tc ∧ (g.2 = .reg barS ∨ g.2 = .dma sendS ∨ g.2 = .dma recvS)

/-- One round: fifteen duties on each cell, of one unit on a barrier cell and of a row's credit on the others. -/
def sched : Rounds.Schedule (GSem nD τ sig) (Fin 15) 𝕄 where
  duties g r := if r = 0 ∧ IsCell g then Finset.univ else ∅
  unitless _ := False
  amount g _ _ := if g.2 = .reg barS then 1 else N
  payload g _ j :=
    if g.2 = .reg barS then barPay g.1.1 j
    else if g.2 = .dma recvS then recvPay m g.1.1 j
    else if g.2 = .dma sendS then sendPay m g.1.1 j
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 15) :
    BI.Storable (upEmb : UEmb _ 𝕄) ((sched (F := F) m).payload g r d) := by
  show BI.Storable upEmb (if g.2 = .reg barS then barPay g.1.1 d else if g.2 = .dma recvS then recvPay m g.1.1 d
    else if g.2 = .dma sendS then sendPay m g.1.1 d else iprop(emp))
  unfold barPay recvPay sendPay
  (repeat' split) <;> infer_instance

theorem isCell (c : Dev nD) (k : Fin 3) : IsCell (kcell (c, k)) := by
  refine ⟨rfl, ?_⟩; fin_cases k
  · exact Or.inl rfl
  · exact Or.inr (Or.inl rfl)
  · exact Or.inr (Or.inr rfl)

theorem duties_cell (c : Dev nD) (k : Fin 3) : (sched (F := F) m).duties (kcell (c, k)) 0 = Finset.univ := by
  dsimp only [sched]; exact if_pos ⟨rfl, isCell c k⟩
theorem duties_later (g : GSem nD τ sig) : ∀ r, 1 ≤ r → (sched (F := F) m).duties g r = ∅ :=
  fun r hr => by dsimp only [sched]; rw [if_neg fun h => by omega]

theorem amount_bar (c : Dev nD) (d : Fin 15) : (sched (F := F) m).amount (barCell c) 0 d = 1 := by dsimp only [sched]; exact if_pos rfl
theorem amount_dma (c : Dev nD) (s : DmaSem sig) (d : Fin 15) : (sched (F := F) m).amount ((c : Thread nD τ), .dma s) 0 d = N := by
  dsimp only [sched]; exact if_neg fun h => by cases h

theorem expect_bar (c : Dev nD) : (sched (F := F) m).expect (barCell c) 0 = 15 := by
  unfold Schedule.expect Schedule.amountOf
  rw [show (sched (F := F) m).duties (barCell c) 0 = Finset.univ from duties_cell m c 0, Finset.sum_congr rfl fun d _ => amount_bar m c d,
    Finset.sum_const, Finset.card_univ, Fintype.card_fin, smul_eq_mul]
theorem expect_dma (c : Dev nD) (s : DmaSem sig) (hs : (sched (F := F) m).duties ((c : Thread nD τ), .dma s) 0 = Finset.univ) :
    (sched (F := F) m).expect ((c : Thread nD τ), .dma s) 0 = 15 * N := by
  unfold Schedule.expect Schedule.amountOf
  rw [hs, Finset.sum_congr rfl fun d _ => amount_dma m c s d, Finset.sum_const, Finset.card_univ, Fintype.card_fin, smul_eq_mul]

theorem payload_bar (c : Dev nD) (d : Fin 15) : (sched (F := F) m).payload (barCell c) 0 d = barPay c d := by dsimp only [sched]; exact if_pos rfl
theorem payload_recv (c : Dev nD) (d : Fin 15) : (sched (F := F) m).payload (recvCell c) 0 d = recvPay m c d := by
  dsimp only [sched]; rw [if_neg recv_ne_bar, if_pos rfl]
theorem payload_send (c : Dev nD) (d : Fin 15) : (sched (F := F) m).payload (sendCell c) 0 d = sendPay m c d := by
  dsimp only [sched]; rw [if_neg send_ne_bar, if_neg send_ne_recv, if_pos rfl]

/-! ## What a device owes -/

/-- The signals still to be given once the first `n` distances are done. -/
def owSig (c : Dev nD) (n : ℕ) : CellTallies nD τ sig Unit :=
  ∑ j ∈ Finset.univ.filter (fun j : Fin 15 => n ≤ j.val), tallyAt (barCell (ahead c j)) () 1
/-- The transfers still to be made when only the first `n` distances are left. -/
def owSend (c : Dev nD) (n : ℕ) : CellTallies nD τ sig Unit :=
  ∑ j ∈ Finset.univ.filter (fun j : Fin 15 => j.val < n), tallyAt (recvCell (ahead c j)) () N
def O₀ (c : Dev nD) : CellTallies nD τ sig Unit := owSend c 15 + owSig c 0

theorem filter_ge_step (j : Fin 15) : Finset.univ.filter (fun i : Fin 15 => j.val ≤ i.val)
    = insert j (Finset.univ.filter fun i : Fin 15 => j.val + 1 ≤ i.val) := by
  ext i; simp only [Finset.mem_filter, Finset.mem_univ, true_and, Finset.mem_insert, Fin.ext_iff]; omega
theorem filter_ge_notMem (j : Fin 15) : j ∉ Finset.univ.filter fun i : Fin 15 => j.val + 1 ≤ i.val := by
  simp
theorem filter_lt_step (j : Fin 15) : Finset.univ.filter (fun i : Fin 15 => i.val < j.val + 1)
    = insert j (Finset.univ.filter fun i : Fin 15 => i.val < j.val) := by
  ext i; simp only [Finset.mem_filter, Finset.mem_univ, true_and, Finset.mem_insert, Fin.ext_iff]; omega
theorem filter_lt_notMem (j : Fin 15) : j ∉ Finset.univ.filter fun i : Fin 15 => i.val < j.val := by
  simp

theorem owSig_step (c : Dev nD) (j : Fin 15) : owSig c j.val = owSig c (j.val + 1) + tallyAt (barCell (ahead c j)) () 1 := by
  unfold owSig; rw [filter_ge_step, Finset.sum_insert (filter_ge_notMem j), add_comm]
theorem owSend_step (c : Dev nD) (j : Fin 15) : owSend c (j.val + 1) = owSend c j.val + tallyAt (recvCell (ahead c j)) () N := by
  unfold owSend; rw [filter_lt_step, Finset.sum_insert (filter_lt_notMem j), add_comm]
theorem owSig_end (c : Dev nD) : owSig c 15 = 0 := by
  unfold owSig; rw [Finset.filter_false_of_mem fun j _ => by have := j.isLt; omega, Finset.sum_empty]
theorem owSend_end (c : Dev nD) : owSend c 0 = 0 := by
  unfold owSend; rw [Finset.filter_false_of_mem fun j _ => by omega, Finset.sum_empty]

theorem owSig_apply (c : Dev nD) (n : ℕ) (g : GSem nD τ sig) :
    owSig c n g () = ∑ j ∈ Finset.univ.filter (fun j : Fin 15 => n ≤ j.val), (if g = barCell (ahead c j) then 1 else 0) := by
  unfold owSig
  rw [Finset.sum_apply, Finsupp.finset_sum_apply]
  refine Finset.sum_congr rfl fun j _ => ?_
  rw [tallyAt_apply]; exact if_congr ⟨fun h => h.1, fun h => ⟨h, rfl⟩⟩ rfl rfl
theorem owSend_apply (c : Dev nD) (n : ℕ) (g : GSem nD τ sig) :
    owSend c n g () = ∑ j ∈ Finset.univ.filter (fun j : Fin 15 => j.val < n), (if g = recvCell (ahead c j) then N else 0) := by
  unfold owSend
  rw [Finset.sum_apply, Finsupp.finset_sum_apply]
  refine Finset.sum_congr rfl fun j _ => ?_
  rw [tallyAt_apply]; exact if_congr ⟨fun h => h.1, fun h => ⟨h, rfl⟩⟩ rfl rfl

theorem owSend_pos {c : Dev nD} {n : ℕ} {g : GSem nD τ sig} {u : Unit} (h : 0 < owSend c n g u) : ∃ j, g = recvCell (ahead c j) := by
  cases u
  rw [owSend_apply] at h
  by_contra hn
  exact absurd h (by rw [Finset.sum_eq_zero fun j _ => if_neg fun hg => hn ⟨j, hg⟩]; exact Nat.lt_irrefl 0)

/-! ## Levels -/

def L (g : GSem nD τ sig) : Finset Unit := if g.1.2 = .tc then {()} else ∅
/-- Barrier cells at 1, landing cells at 2, everything else at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) : lv (recvCell c) () = 2 := by unfold lv; rw [if_neg recv_ne_bar, if_pos rfl]

/-- A device that owes landings only may wait on any cell below them. -/
theorem mayWait_below (c : Dev nD) (sm : SemLoc sig) (n : ℕ) (h : lv ((c : Thread nD τ), sm) () < 2) :
    (levAts L lv : sProp 𝕄) ⊢ MayWait (c : Thread nD τ) sm () (owSend c n) :=
  MayOwe.of_cut (L := L) (lev := lv) 1 (fun p hp => by rw [Finset.mem_singleton.mp hp, L_tc]; exact Finset.mem_singleton_self _)
    (fun g u hg => by obtain ⟨j, rfl⟩ := owSend_pos hg; exact Finset.mem_singleton_self _)
    (fun p hp => by rw [Finset.mem_singleton.mp hp]; exact Nat.le_of_lt_succ h)
    (fun g u hg => by obtain ⟨j, rfl⟩ := owSend_pos hg; cases u; rw [lv_recv]; decide)

theorem lv_bar (c : Dev nD) : lv (barCell c) () < 2 := by unfold lv; rw [if_pos rfl]; decide
theorem lv_local (c : Dev nD) (s : DmaSem sig) (h : SemLoc.dma s ≠ .dma recvS) : lv ((c : Thread nD τ), .dma s) () < 2 := by
  unfold lv; rw [if_neg (fun h => by cases h), if_neg h]; decide

/-! ## The records all devices share -/

/-- Every cell's invariant, at the names `K`, and that every cell has reached its round. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records (F := F) m K) := by unfold records; infer_instance

theorem bigSep_pick {I : Type} [DecidableEq I] [Fintype I] (Φ : I → sProp 𝕄) (i : I) : bigSep Finset.univ Φ ⊢ Φ i := bigSep_elim (Finset.mem_univ i)

theorem inv_at (K : Dev nD × Fin 3 → ℕ) (c : Dev nD) (k : Fin 3) : records m K ⊢ cellInv ER (sched (F := F) m) (K (c, k)) (kcell (c, k)) := by
  unfold records
  iintro ⟨#HI, -⟩
  iapply (bigSep_pick (F := F) (fun ck : Dev nD × Fin 3 => (cellInv ER (sched (F := F) m) (K ck) (kcell ck) : sProp 𝕄)) (c, k)); iexact HI
theorem reached_at (K : Dev nD × Fin 3 → ℕ) (c : Dev nD) (k : Fin 3) : records m K ⊢ (reached ER (kcell (c, k)) 0 : sProp 𝕄) := by
  unfold records
  iintro ⟨-, #HR⟩
  iapply (bigSep_pick (F := F) (fun ck : Dev nD × Fin 3 => (reached ER (kcell ck) 0 : sProp 𝕄)) (c, k)); iexact HR

end Cert.Own

end
-- ==== Proof.Steps.lean ====
/-
One rule per kind of step of the kernel that crosses devices: a signal, a transfer, a wait for one of fifteen landings
or sends, the last such wait. Each is stated over the bundle of resources the kernel carries from one such step to
the next, so that fifteen steps are fifteen uses of one rule.
-/
module

public import proofs.«01_k».proof.Proof.Protocol

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c`'s TensorCore ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on. -/
def owesE (c : Dev nD) (O : CellTallies nD τ sig Unit) : sProp 𝕄 := iprop(∃ W, owes (c : Thread nD τ) O W)

theorem bigSep_take {I : Type} [DecidableEq I] {s : Finset I} {i : I} (hi : i ∉ s) (Φ : I → sProp 𝕄) :
    bigSep (insert i s) Φ = iprop(Φ i ∗ bigSep s Φ) := bigSep_insert hi

/-! ## Signals -/

/-- With the first `n` signals given: what is owed, and for each signal to come its token and the row it hands over. -/
def SigState (c : Dev nD) (n : ℕ) : sProp 𝕄 :=
  iprop(owesE c (owSend c 15 + owSig c n)
    ∗ bigSep (Finset.univ.filter fun j : Fin 15 => n ≤ j.val)
        (fun j => iprop(dutyTok ER (barCell (ahead c j)) 0 j ∗ ∃ f, rowPts (F := F) c (flip j).succ fullShare f)))

/-- A signal to the device `j + 1` places ahead. -/
theorem signal_step (K : Dev nD × Fin 3 → ℕ) (c : Dev nD) (j : Fin 15) (n : Dev nD) (hn : n = ahead c j) {α : Type} {Q : α → sProp 𝕄}
    {k : PUnit → Prog (TpuEff nD τ sig (Elt F) Λ₀ .tc) α} :
    records m K
      ⊢ iprop(SigState c j.val -∗ (SigState c (j.val + 1) -∗ runs c (k ⟨⟩) Q) -∗ runs c (.op (.semSignal (Dev.tc n : Thread nD τ) barS (1#32).toInt) k) Q) := by
  subst hn
  unfold SigState owesE
  rw [filter_ge_step, bigSep_take (filter_ge_notMem j)]
  iintro #HR ⟨⟨%W, HO⟩, ⟨Htok, ⟨%f, Hrow⟩⟩, Hrest⟩ Hk
  ihave HI := (inv_at m K (ahead c j) 0) $$ HR
  ihave Hr := (reached_at m K (ahead c j) 0) $$ HR
  iapply (Rounds.wp_signal 𝒱₀ ER (sched m) (c : Thread nD τ) none (dst := (ahead c j : Thread nD τ)) (κ := K (ahead c j, 0))
      (d := j) (by rw [show (sched (F := F) m).duties (barCell (ahead c j)) 0 = Finset.univ from duties_cell m _ 0]; exact Finset.mem_univ _)
      ((amount_bar m (ahead c j) j).trans (by decide)) () (O₀ := owSend c 15 + owSig c j.val) (owSend c 15 + owSig c (j.val + 1))
      (by rw [owSig_step, add_assoc]; rfl)) $$ [HO Htok Hrow HI Hr]
  · isplitl [HI]; · iexact HI
    isplitl [HO]; · iexact HO
    isplitl [Htok]; · iexact Htok
    isplitl [Hrow]
    · rw [payload_bar]; unfold barPay; rw [ahead_ahead_flip]; iexists f; iexact Hrow
    iexact Hr
  iintro HO
  iapply Hk
  isplitl [HO]; · iexists W; iexact HO
  iexact Hrest

/-! ## Transfers -/

/-- With the transfers to the first `n` distances left: what is owed; for each of them its two tokens, the share of row 0
    it reads and the row it fills; and the credit of the transfers made. -/
def SendState (c : Dev nD) (n : ℕ) : sProp 𝕄 :=
  iprop(owesE c (owSend c n)
    ∗ (bigSep (Finset.univ.filter fun j : Fin 15 => j.val < n)
        (fun j => iprop(dutyTok ER (sendCell c) 0 j ∗ dutyTok ER (recvCell (ahead c j)) 0 j
          ∗ rowPts c 0 (Transfers.shareTokN fullShare j.val) (tabOf m c) ∗ ∃ f, rowPts (F := F) (ahead c j) j.succ fullShare f)))
    ∗ cred (tallyAt (sendCell c) () ((15 - n) * N)))

theorem mem_send (c : Dev nD) (j : Fin 15) : j ∈ (sched (F := F) m).duties (sendCell c) 0 := by
  rw [show (sched (F := F) m).duties (sendCell c) 0 = Finset.univ from duties_cell m c 1]; exact Finset.mem_univ _
theorem mem_recv (c : Dev nD) (j : Fin 15) : j ∈ (sched (F := F) m).duties (recvCell c) 0 := by
  rw [show (sched (F := F) m).duties (recvCell c) 0 = Finset.univ from duties_cell m c 2]; exact Finset.mem_univ _

theorem cred_join (g : GSem nD τ sig) (a b : ℕ) : iprop(cred (tallyAt g () a) ∗ cred (tallyAt g () b)) ⊢ (cred (tallyAt g () (a + b)) : sProp 𝕄) := by
  rw [← tallyAt_add]; exact (cred_add _ _).2
theorem cred_part (g : GSem nD τ sig) (a b : ℕ) : (cred (tallyAt g () (a + b)) : sProp 𝕄) ⊢ iprop(cred (tallyAt g () a) ∗ cred (tallyAt g () b)) := by
  rw [← tallyAt_add]; exact (cred_add _ _).1

/-- The library's rule of an addressed transfer at this kernel's rows and cells. -/
theorem send_raw (K : Dev nD × Fin 3 → ℕ) (c : Dev nD) (j : Fin 15) (n : Dev nD) (hn : n = ahead c j)
    {hsc : (rowM j.succ : Memref sig (Dev.tc n : Thread nD τ).2.kind .vmem S3x256 .bf16).view.ref.isScScratch = false}
    {hsrc : (rowM 0).view.WordExact} {hdst : (rowM j.succ).view.WordExact}
    {hsem : DmaTarget.Typed .vmem (.dma recvS) (.remote (Dev.tc n : Thread nD τ) (rowM j.succ) (.dma sendS) hsc)}
    {α : Type} {Q : α → sProp 𝕄} {k : PUnit → Prog (TpuEff nD τ sig (Elt F) Λ₀ .tc) α}
    (f : S16x3x256.Idx → Elt F .bf16) (W : Waits sig Unit) :
    iprop(cellInv ER (sched m) (K (c, 1)) (sendCell c) ∗ cellInv ER (sched m) (K (ahead c j, 2)) (recvCell (ahead c j))
        ∗ rowPts c 0 (Transfers.shareTokN fullShare j.val) (tabOf m c) ∗ rowPts (ahead c j) j.succ fullShare f
        ∗ owes (c : Thread nD τ) (owSend c (j.val + 1)) W
        ∗ dutyTok ER (sendCell c) 0 j ∗ reached ER (sendCell c) 0
        ∗ dutyTok ER (recvCell (ahead c j)) 0 j ∗ reached ER (recvCell (ahead c j)) 0)
      ⊢ iprop(((cred (tallyAt (sendCell c) () N) ∗ owes (c : Thread nD τ) (owSend c j.val) W) -∗ runs c (k ⟨⟩) Q)
          -∗ runs c (.op (.enqueueDma (rowM 0) (.remote (Dev.tc n : Thread nD τ) (rowM j.succ) (.dma sendS) hsc) (.dma recvS) hsrc hdst hsem) k) Q) := by
  subst hn
  unfold rowPts
  have hp₂ : ((rowM j.succ).view.loc (ahead c j : Thread nD τ) ↦[(rowM j.succ).view.set]{fullShare}
      ((rowM j.succ).view.write (Elt F) f ((rowM 0).view.read (Elt F) (tabOf m c)) Finset.univ) : sProp 𝕄)
      ⊢ (sched m).payload (recvCell (ahead c j)) 0 j := by
    rw [payload_recv]; unfold recvPay rowPts
    exact Entails.of_eq (pointsTo_congr fun i hi => sent_row m c j f i hi)
  have hp₁ : ((rowM 0).view.loc (c : Thread nD τ) ↦[(rowM 0).view.set]{Transfers.shareTokN fullShare j.val} (tabOf m c) : sProp 𝕄)
      ⊢ (sched m).payload (sendCell c) 0 j := by
    rw [payload_send]; exact BI.Entails.refl _
  have hr : τ.routes (c : Thread nD τ) (ahead c j : Thread nD τ) = true := by routes
  have h := Rounds.wp_send_pointsTo (defs := defs₀ (F := F)) (Γ := .empty) (Es := Set.univ) (Q := Q) (k := k) 𝒱₀ ER (sched m) (c : Thread nD τ) none (c' := (ahead c j : Thread nD τ)) (src := rowM 0) (dst := rowM j.succ)
    (hsc := hsc) (sS := .dma sendS) (sem := .dma recvS) (hsrc := hsrc) (hdst := hdst) (hsem := hsem)
    (κ₁ := K (c, 1)) (κ₂ := K (ahead c j, 2)) (fs := tabOf m c) (q := Transfers.shareTokN fullShare j.val)
    (r₁ := 0) (r₂ := 0) (d₁ := j) (d₂ := j) (fd := f) (mem_send m c j) (mem_recv m (ahead c j) j)
    () () N rfl (amount_dma m c sendS j) (amount_dma m (ahead c j) recvS j) (O₀ := owSend c (j.val+1)) (owSend c j.val) (owSend_step c j) (W := W)
    hp₁ hp₂ hr
  exact h

/-- The transfer of row 0 into row `j + 1` of the device `j + 1` places ahead. -/
theorem send_step (K : Dev nD × Fin 3 → ℕ) (c : Dev nD) (j : Fin 15) (n : Dev nD) (hn : n = ahead c j)
    {hsc : (rowM j.succ : Memref sig (Dev.tc n : Thread nD τ).2.kind .vmem S3x256 .bf16).view.ref.isScScratch = false}
    {hsrc : (rowM 0).view.WordExact} {hdst : (rowM j.succ).view.WordExact}
    {hsem : DmaTarget.Typed .vmem (.dma recvS) (.remote (Dev.tc n : Thread nD τ) (rowM j.succ) (.dma sendS) hsc)}
    {α : Type} {Q : α → sProp 𝕄} {k : PUnit → Prog (TpuEff nD τ sig (Elt F) Λ₀ .tc) α} :
    records m K
      ⊢ iprop(SendState m c (j.val + 1) -∗ (SendState m c j.val -∗ runs c (k ⟨⟩) Q)
          -∗ runs c (.op (.enqueueDma (rowM 0) (.remote (Dev.tc n : Thread nD τ) (rowM j.succ) (.dma sendS) hsc) (.dma recvS) hsrc hdst hsem) k) Q) := by
  unfold SendState owesE
  rw [filter_lt_step, bigSep_take (filter_lt_notMem j)]
  iintro #HR ⟨⟨%W, HO⟩, ⟨⟨Hts, Htr, Hsrc, ⟨%f, Hrow⟩⟩, Hrest⟩, Hcr⟩ Hk
  ihave HIs := (inv_at m K c 1) $$ HR
  ihave HIr := (inv_at m K (ahead c j) 2) $$ HR
  ihave Hrs := (reached_at m K c 1) $$ HR
  ihave Hrr := (reached_at m K (ahead c j) 2) $$ HR
  iapply (send_raw m K c j n hn f W) $$ [HO Hts Htr Hsrc Hrow HIs HIr Hrs Hrr]
  · isplitl [HIs]; · iexact HIs
    isplitl [HIr]; · iexact HIr
    isplitl [Hsrc]; · iexact Hsrc
    isplitl [Hrow]; · iexact Hrow
    isplitl [HO]; · iexact HO
    isplitl [Hts]; · iexact Hts
    isplitl [Hrs]; · iexact Hrs
    isplitl [Htr]; · iexact Htr
    iexact Hrr
  iintro ⟨Hc, HO⟩
  iapply Hk
  isplitl [HO]; · iexists W; iexact HO
  isplitl [Hrest]; · iexact Hrest
  rw [show (15 - j.val) * N = (15 - (j.val + 1)) * N + N from by
    rw [show 15 - j.val = (15 - (j.val + 1)) + 1 from by have := j.isLt; omega, Nat.add_mul, Nat.one_mul]]
  iapply (cred_join (F := F) (sendCell c)); isplitl [Hcr] <;> iassumption

/-! ## Waits for one of fifteen -/

/-- With `n` of the fifteen parts of a transfer cell consumed: the place in the round, the payloads of the parts whose
    landing is known so far, and the credit for the waits to come. -/
def WaitState (c : Dev nD) (s : DmaSem sig) (n : ℕ) : sProp 𝕄 :=
  iprop(∃ S : Finset (Fin 15), atPos ER ((c : Thread nD τ), .dma s) 0 S (n * N)
    ∗ (bigSep S fun d => (sched m).payload ((c : Thread nD τ), .dma s) 0 d) ∗ cred (tallyAt ((c : Thread nD τ), .dma s) () ((15 - n) * N)))

/-- One of the first fourteen waits on a transfer cell. -/
theorem wait_step (K : Dev nD × Fin 3 → ℕ) (c : Dev nD) (k₀ : Fin 3) (s : DmaSem sig) (hs : csem k₀ = .dma s) (n : ℕ) (hn : n < 14)
    {src dst : Memref sig .tc .vmem S3x256 .bf16} (hN : dst.view.dmaCredit = N)
    {hsrc : src.view.WordExact} {hdst : dst.view.WordExact}
    {α : Type} {Q : α → sProp 𝕄} {k : PUnit → Prog (TpuEff nD τ sig (Elt F) Λ₀ .tc) α} :
    records m K
      ⊢ iprop(owesE c 0 -∗ WaitState m c s n -∗ (owesE c 0 -∗ WaitState m c s (n + 1) -∗ runs c (k ⟨⟩) Q)
          -∗ runs c (.op (.waitDma2 s src dst hsrc hdst) k) Q) := by
  unfold WaitState owesE
  iintro #HR ⟨%W, HO⟩ ⟨%S, Hat, Hpay, Hcr⟩ Hk
  ihave HI := (inv_at m K c k₀) $$ HR
  rw [show kcell (c, k₀) = ((c : Thread nD τ), .dma s) from Prod.ext rfl hs,
    show (15 - n) * N = (15 - (n + 1)) * N + N from by
      rw [show 15 - n = (15 - (n + 1)) + 1 from by omega, Nat.add_mul, Nat.one_mul]]
  ihave Hcr' := (cred_part (F := F) ((c : Thread nD τ), .dma s) _ _) $$ Hcr
  icases Hcr' with ⟨Hcr, Hc1⟩
  iapply (Rounds.wp_wait 𝒱₀ ER (sched m) (c : Thread nD τ) none (κ := K (c, k₀)) (k' := N)
      (fun Kt => (wpE_waitDma2_eq 𝒱₀ (c : Thread nD τ) none Set.univ Kt).trans (by rw [hN])) (Set.mem_univ _)
      {(SemLoc.dma s, ())} (cr := Finsupp.single () N) (O := 0) (W := W) (R := 0) (m := n * N) (T := S)
      (Util.total_single _ _) (image_single_subset (SemLoc.dma s) () N)) $$ [HI HO Hat Hc1]
  · isplitl [HI]; · iexact HI
    isplitl [Hc1]; · iexact Hc1
    isplitl [HO]; · iexact HO
    isplitr; · rw [MayOwe_zero]; iempintro
    iexact Hat
  iintro %S' ⟨%hS', HO, Hat, Hnew⟩
  iapply Hk $$ [HO]; · iexists _; iexact HO
  iexists S'
  rw [Nat.add_mul, Nat.one_mul]
  isplitl [Hat]; · iexact Hat
  isplitl [Hpay Hnew]
  · rw [show (bigSep S' fun d => (sched (F := F) m).payload ((c : Thread nD τ), .dma s) 0 d)
        = iprop((bigSep S fun d => (sched (F := F) m).payload ((c : Thread nD τ), .dma s) 0 d)
          ∗ bigSep (S' \ S) fun d => (sched (F := F) m).payload ((c : Thread nD τ), .dma s) 0 d) from bigSep_sdiff_split hS'.1]
    isplitl [Hpay] <;> iassumption
  iexact Hcr

/-- The last of the fifteen waits on a transfer cell: every payload is in hand, and the semaphore is back at zero. -/
theorem wait_last (K : Dev nD × Fin 3 → ℕ) (c : Dev nD) (k₀ : Fin 3) (s : DmaSem sig) (hs : csem k₀ = .dma s)
    {src dst : Memref sig .tc .vmem S3x256 .bf16} (hN : dst.view.dmaCredit = N)
    {hsrc : src.view.WordExact} {hdst : dst.view.WordExact}
    {α : Type} {Q : α → sProp 𝕄} {k : PUnit → Prog (TpuEff nD τ sig (Elt F) Λ₀ .tc) α} :
    records m K
      ⊢ iprop(owesE c 0 -∗ WaitState m c s 14 -∗ (iprop(owesE c 0 ∗ (bigSep Finset.univ fun d => (sched m).payload ((c : Thread nD τ), .dma s) 0 d)
              ∗ atPos ER ((c : Thread nD τ), .dma s) 1 ∅ 0) -∗ runs c (k ⟨⟩) Q)
          -∗ runs c (.op (.waitDma2 s src dst hsrc hdst) k) Q) := by
  have hd : (sched (F := F) m).duties ((c : Thread nD τ), .dma s) 0 = Finset.univ :=
    (congrArg (fun g => (sched (F := F) m).duties g 0) (show ((c : Thread nD τ), SemLoc.dma s) = kcell (c, k₀) from Prod.ext rfl hs.symm)).trans
      (duties_cell m c k₀)
  unfold WaitState owesE
  iintro #HR ⟨%W, HO⟩ ⟨%S, Hat, Hpay, Hcr⟩ Hk
  ihave HI := (inv_at m K c k₀) $$ HR
  rw [show kcell (c, k₀) = ((c : Thread nD τ), .dma s) from Prod.ext rfl hs, show (15 - 14) * N = N from Nat.one_mul N]
  iapply (Rounds.wp_wait_rest_token 𝒱₀ ER (sched m) (c : Thread nD τ) none (κ := K (c, k₀)) (k' := N)
      (fun Kt => (wpE_waitDma2_eq 𝒱₀ (c : Thread nD τ) none Set.univ Kt).trans (by rw [hN])) (Set.mem_univ _)
      () (O := 0) (W := W) (R := 0) (m := 14 * N) (T := S)
      (by rw [expect_dma m c s hd]; exact (Nat.succ_mul 14 N).symm)) $$ [HI HO Hat Hcr]
  · isplitl [HI]; · iexact HI
    isplitl [Hcr]; · iexact Hcr
    isplitl [HO]; · iexact HO
    isplitr; · rw [MayWait_zero]; iempintro
    iexact Hat
  iintro ⟨HO, Hat, -, Hnew⟩
  iapply Hk
  isplitl [HO]; · iexists _; iexact HO
  isplitl [Hpay Hnew]
  · rw [hd, show (bigSep Finset.univ fun d => (sched (F := F) m).payload ((c : Thread nD τ), .dma s) 0 d)
        = iprop((bigSep S fun d => (sched (F := F) m).payload ((c : Thread nD τ), .dma s) 0 d)
          ∗ bigSep (Finset.univ \ S) fun d => (sched (F := F) m).payload ((c : Thread nD τ), .dma s) 0 d) from bigSep_sdiff_split (Finset.subset_univ S)]
    isplitl [Hpay] <;> iassumption
  iexact Hat

/-! ## The barrier -/

/-- The wait for the fifteen signals: each of the other devices' rows for this device's transfers is in hand. -/
theorem barrier_step (K : Dev nD × Fin 3 → ℕ) (c : Dev nD) {α : Type} {Q : α → sProp 𝕄}
    {k : PUnit → Prog (TpuEff nD τ sig (Elt F) Λ₀ .tc) α} :
    records m K
      ⊢ iprop(levAts L lv -∗ owesE c (owSend c 15) -∗ cred (tallyAt (barCell c) () 15) -∗ atPos ER (barCell c) 0 ∅ 0 -∗ (iprop(owesE c (owSend c 15) ∗ (bigSep Finset.univ fun j : Fin 15 => iprop(∃ f, rowPts (F := F) (ahead c j) j.succ fullShare f))
              ∗ atPos ER (barCell c) 1 ∅ 0) -∗ runs c (k ⟨⟩) Q)
          -∗ runs c (.op (.semWait barS (15#32).toInt) k) Q) := by
  unfold owesE
  iintro #HR #HL ⟨%W, HO⟩ Hcr Hat Hk
  ihave HI := (inv_at m K c 0) $$ HR
  iapply (Rounds.wp_wait_rest_token 𝒱₀ ER (sched m) (c : Thread nD τ) none (κ := K (c, 0)) (k' := 15)
      (wpE_semWait_eq 𝒱₀ (c : Thread nD τ) none Set.univ) (Set.mem_univ _)
      () (O := owSend c 15) (W := W) (R := 0) (m := 0) (T := ∅)
      (by rw [show (sched (F := F) m).expect ((c : Thread nD τ), .reg barS) 0 = 15 from expect_bar m c])) $$ [HI HO Hat Hcr]
  · isplitl [HI]; · iexact HI
    isplitl [Hcr]; · iexact Hcr
    isplitl [HO]; · iexact HO
    isplitr
    · iapply (mayWait_below (F := F) c (.reg barS) 15 (lv_bar c)); iexact HL
    iexact Hat
  iintro ⟨HO, Hat, -, Hnew⟩
  iapply Hk
  isplitl [HO]; · iexists _; iexact HO
  isplitl [Hnew]
  · rw [Finset.sdiff_empty, show (sched (F := F) m).duties ((c : Thread nD τ), .reg barS) 0 = Finset.univ from duties_cell m c 0]
    iapply (Entails.of_eq ((bigSep_congr (fun d _ => payload_bar (F := F) m c d)).trans
      (bigSep_univ_equiv flips (fun j => iprop(∃ f, rowPts (F := F) (ahead c j) j.succ fullShare f))).symm)) $$ Hnew
  iexact Hat

/-- Once its round is over, a cell gives its semaphore's value, zero. -/
theorem cell_done (K : Dev nD × Fin 3 → ℕ) (c : Dev nD) (k₀ : Fin 3) :
    iprop(records m K ∗ atPos ER (kcell (c, k₀)) 1 ∅ 0) ⊢ iprop(|={Set.univ}=> (semVal (kcell (c, k₀)) 0 : sProp 𝕄)) := by
  iintro ⟨#HR, Hat⟩
  ihave HI := (inv_at m K c k₀) $$ HR
  imod (Rounds.cell_close ER (sched m) (Set.mem_univ (K (c, k₀))) (fun h => h) (R := 0 + 1) (duties_later m (kcell (c, k₀)))) $$ [HI Hat] with Hz
  · isplitl [HI] <;> iassumption
  imodintro
  iexact Hz

end Cert.Own

end
-- ==== Proof.Local.lean ====
/-
The steps that stay on one device: the local copies in and out, the split of the weight's arrays into the three chunks
the copies move, and the split of the table into rows and into the shares the transfers read.
-/
module

public import proofs.«01_k».proof.Proof.Steps

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Local copies -/

/-- The wait for a local copy, while landings at `n` distances are still owed. -/
theorem local_wait (c : Dev nD) (n : ℕ) (s : DmaSem sig) (hs : SemLoc.dma s ≠ .dma recvS) {sp sp' : Space} {sh sh' : Shape} {e e' : EltTy}
    {src : Memref sig .tc sp' sh' e'} {dst : Memref sig .tc sp sh e} {hsrc : src.view.WordExact} {hdst : dst.view.WordExact}
    (Nc : ℕ) (hN : dst.view.dmaCredit = Nc) (D : sProp 𝕄)
    {α : Type} {Q : α → sProp 𝕄} {k : PUnit → Prog (TpuEff nD τ sig (Elt F) Λ₀ .tc) α} :
    levAts L lv
      ⊢ iprop(owesE c (owSend c n) -∗ Transfers.Flight EC (c : Thread nD τ) (.dma s) () Nc D -∗ (iprop(owesE c (owSend c n) ∗ D ∗ semVal ((c : Thread nD τ), .dma s) 0) -∗ runs c (k ⟨⟩) Q)
          -∗ runs c (.op (.waitDma2 s src dst hsrc hdst) k) Q) := by
  unfold owesE
  iintro #HL ⟨%W, HO⟩ Hf Hk
  iapply (Transfers.wp_waitLocalO EC 𝒱₀ (c : Thread nD τ) none () hN (D := D) (O := owSend c n) (W := W)) $$ [HO Hf]
  · isplitl [Hf]; · iexact Hf
    isplitl [HO]; · iexact HO
    iapply (mayWait_below (F := F) c (.dma s) n (lv_local c s hs)); iexact HL
  iintro ⟨HD, Hv, HO⟩
  iapply Hk
  isplitl [HO]; · iexists _; iexact HO
  isplitl [HD] <;> iassumption

/-- The start of a local copy of one view into another. -/
theorem local_start (c : Dev nD) (s : DmaSem sig) {sp sp' : Space} {sh : Shape} {e : EltTy}
    {src : Memref sig .tc sp sh e} {dst : Memref sig .tc sp' sh e} {hsrc : src.view.WordExact} {hdst : dst.view.WordExact}
    {hsem : DmaTarget.Typed (nD := nD) (τ := τ) (p := Proc.tc) sp (.dma s) (.here dst)} (hN0 : 0 < dst.view.dmaCredit)
    (fs : Buf (Elt F) (src.view.loc (c : Thread nD τ))) (fd : Buf (Elt F) (dst.view.loc (c : Thread nD τ)))
    {α : Type} {Q : α → sProp 𝕄} {k : PUnit → Prog (TpuEff nD τ sig (Elt F) Λ₀ .tc) α} :
    (src.view.loc (c : Thread nD τ) ↦[src.view.set]{fullShare} fs : sProp 𝕄)
      ⊢ iprop((dst.view.loc (c : Thread nD τ) ↦[dst.view.set]{fullShare} fd) -∗ semVal ((c : Thread nD τ), .dma s) 0 -∗ (Transfers.Flight EC (c : Thread nD τ) (.dma s) () dst.view.dmaCredit
              iprop((dst.view.loc (c : Thread nD τ) ↦[dst.view.set]{fullShare}
                    (dst.view.write (Elt F) fd ((ReadAs.same (Val := Elt F)).apply (src.view.read (Elt F) fs)) Finset.univ))
                  ∗ (src.view.loc (c : Thread nD τ) ↦[src.view.set]{fullShare} fs)) -∗ runs c (k ⟨⟩) Q)
          -∗ runs c (.op (.enqueueDma src (.here dst) (.dma s) hsrc hdst hsem) k) Q) := by
  have h := Transfers.wp_dmaLocal EC (defs := defs₀ (F := F)) (Q := Q) (k := k) 𝒱₀ (c : Thread nD τ) none (via := ReadAs.same)
    (src := src) (dst := dst) (sm := .dma s) (hsrc := hsrc) (hdst := hdst) (hsem := hsem) (q := fullShare) (fs := fs) (fd := fd) (Sd := dst.view.set)
    () dst.view.dmaCredit rfl hN0 (Finset.Subset.refl _)
  iintro Hs Hd Hv
  iapply h
  isplitl [Hs]; · iexact Hs
  isplitl [Hd] <;> iassumption

/-! ## Whole arrays -/

/-- A whole array of device `c`, holding `f`. -/
abbrev wholePts (c : Dev nD) (b : Ref sig .tc) (f : b.ty.Contents (Elt F)) : sProp 𝕄 :=
  ((c : Thread nD τ).loc b) ↦{fullShare} (f : Buf (Elt F) ((c : Thread nD τ).loc b))

theorem whole_view (c : Dev nD) (b : Ref sig .tc) (f : b.ty.Contents (Elt F)) :
    wholePts (F := F) c b f = ((Memref.whole b).view.loc (c : Thread nD τ) ↦[(Memref.whole b).view.set]{fullShare}
      (f : Buf (Elt F) ((Memref.whole b).view.loc (c : Thread nD τ)))) := by
  simp only [Memref.view_whole, View.set_whole]

theorem whole_copied (b b' : Ref sig .tc) (h : b'.ty = b.ty) (fd : b.ty.Contents (Elt F)) (w : b.ty.Contents (Elt F)) :
    (Memref.whole b).view.write (Elt F) fd w Finset.univ = w := by
  simp only [Memref.view_whole]; exact View.write_whole_univ b fd w

/-- What a landed copy of a whole array holds. -/
theorem whole_landed (c : Dev nD) (b : Ref sig .tc) (fd w : b.ty.Contents (Elt F)) :
    ((Memref.whole b).view.loc (c : Thread nD τ) ↦[(Memref.whole b).view.set]{fullShare}
        ((Memref.whole b).view.write (Elt F) fd w Finset.univ) : sProp 𝕄) = wholePts c b w := by
  rw [whole_copied b b rfl fd w]; exact (whole_view c b w).symm

/-- The load of the whole of `x`, and of the labels. -/
theorem load_x (c : Dev nD) (f : S256x512.Idx → Elt F .f32) {inb} {hl : xV.view.LoadsAt (Rect.unit (s := S256x512) ![0, 0] S256x512.size inb).toLoadRect}
    {α : Type} {Q : α → sProp 𝕄} {k : (S256x512.Idx → Elt F .f32) → Prog (TpuEff nD τ sig (Elt F) Λ₀ .tc) α} :
    wholePts c cc0_scratch0 f ⊢ iprop((wholePts c cc0_scratch0 f -∗ runs c (k f) Q)
      -∗ runs c (.op (.load xV (Rect.unit (s := S256x512) ![0, 0] S256x512.size inb).toLoadRect hl) k) Q) := by
  have h := wp_load (defs := defs₀ (F := F)) (Q := Q) (k := k) (hl := hl) (Γ := .empty) 𝒱₀ (c : Thread nD τ) none Set.univ (m := xV) (q := fullShare)
    (S := Finset.univ) (f := (f : Buf (Elt F) (xV.view.loc (c : Thread nD τ)))) (Finset.subset_univ _)
  rw [show xV.view.readAt (Elt F) (Rect.unit (s := S256x512) ![0, 0] S256x512.size inb).toLoadRect f = f from
    Memref.readAt_unit_zero (Elt F) cc0_scratch0 (funext fun a => by fin_cases a <;> rfl) _ f] at h
  exact h
theorem load_l (c : Dev nD) (f : S256.Idx → Elt F .i32) {inb} {hl : lV.view.LoadsAt (Rect.unit (s := S256) ![0] S256.size inb).toLoadRect}
    {α : Type} {Q : α → sProp 𝕄} {k : (S256.Idx → Elt F .i32) → Prog (TpuEff nD τ sig (Elt F) Λ₀ .tc) α} :
    wholePts c cc0_scratch2 f ⊢ iprop((wholePts c cc0_scratch2 f -∗ runs c (k f) Q)
      -∗ runs c (.op (.load lV (Rect.unit (s := S256) ![0] S256.size inb).toLoadRect hl) k) Q) := by
  have h := wp_load (defs := defs₀ (F := F)) (Q := Q) (k := k) (hl := hl) (Γ := .empty) 𝒱₀ (c : Thread nD τ) none Set.univ (m := lV) (q := fullShare)
    (S := Finset.univ) (f := (f : Buf (Elt F) (lV.view.loc (c : Thread nD τ)))) (Finset.subset_univ _)
  rw [show lV.view.readAt (Elt F) (Rect.unit (s := S256) ![0] S256.size inb).toLoadRect f = f from
    Memref.readAt_unit_zero (Elt F) cc0_scratch2 (funext fun a => by fin_cases a; rfl) _ f] at h
  exact h

/-- The load of the result buffer, whose value is not used. -/
theorem load_dead (c : Dev nD) {r : LoadRect S256} {hl : oV.view.LoadsAt r} (f : S256.Idx → Elt F .f32)
    {α : Type} {Q : α → sProp 𝕄} {p : Prog (TpuEff nD τ sig (Elt F) Λ₀ .tc) α} :
    wholePts c cc0_scratch3 f ⊢ iprop((wholePts c cc0_scratch3 f -∗ runs c p Q) -∗ runs c (.op (.load oV r hl) fun _ => p) Q) := by
  have h := wp_load (defs := defs₀ (F := F)) (Q := Q) (k := fun _ => p) (hl := hl) (Γ := .empty) 𝒱₀ (c : Thread nD τ) none Set.univ (m := oV)
    (q := fullShare) (S := Finset.univ) (f := (f : Buf (Elt F) (oV.view.loc (c : Thread nD τ)))) (Finset.subset_univ _)
  exact h

/-- The store of the whole result. -/
theorem store_o (c : Dev nD) (f w : S256.Idx → Elt F .f32) {inb} {hx} {hm}
    {α : Type} {Q : α → sProp 𝕄} {k : PUnit → Prog (TpuEff nD τ sig (Elt F) Λ₀ .tc) α} :
    wholePts c cc0_scratch3 f ⊢ iprop((wholePts c cc0_scratch3 w -∗ runs c (k ⟨⟩) Q)
      -∗ runs c (.op (.store oV (Rect.unit (s := S256) ![0] S256.size inb) w Finset.univ hx hm) k) Q) := by
  have h := wp_store (defs := defs₀ (F := F)) (Q := Q) (k := k) (hx := hx) (hm := hm) (Γ := .empty) 𝒱₀ (c : Thread nD τ) none Set.univ (m := oV) (w := w)
    (r := Rect.unit (s := S256) ![0] S256.size inb) (Mk := Finset.univ) (S := Finset.univ)
    (f := (f : Buf (Elt F) (oV.view.loc (c : Thread nD τ)))) (Finset.subset_univ _)
  rw [show (oV.access (Rect.unit (s := S256) ![0] S256.size inb)).write (Elt F) f w Finset.univ = w from
    Memref.write_access_unit_zero_univ (Elt F) cc0_scratch3 (funext fun a => by fin_cases a; rfl) _ f w] at h
  exact h

/-! ## The weight's chunks -/

/-- Chunk `r` of the weight's array, and of its scratch buffer, as the copies name them. -/
def hPts (c : Dev nD) (r : Rect S512x4096) (hr : ∀ a, r.stride a = 1) (f : S512x4096.Idx → Elt F .f32) : sProp 𝕄 :=
  (wH.slice r hr).view.loc (c : Thread nD τ) ↦[(wH.slice r hr).view.set]{fullShare} (f : Buf (Elt F) ((wH.slice r hr).view.loc (c : Thread nD τ)))
def vPts (c : Dev nD) (r : Rect S512x4096) (hr : ∀ a, r.stride a = 1) (f : S512x4096.Idx → Elt F .f32) : sProp 𝕄 :=
  (wV.slice r hr).view.loc (c : Thread nD τ) ↦[(wV.slice r hr).view.set]{fullShare} (f : Buf (Elt F) ((wV.slice r hr).view.loc (c : Thread nD τ)))

theorem three_parts (ℓ : Loc nD τ sig) (A B C : Finset (Idx ℓ)) (h₁ : Disjoint A B) (h₂ : Disjoint (A ∪ B) C) (h : (A ∪ B) ∪ C = Finset.univ)
    (f : Buf (Elt F) ℓ) : ((ℓ ↦{fullShare} f) : sProp 𝕄) ⊣⊢ iprop((ℓ ↦[A]{fullShare} f) ∗ (ℓ ↦[B]{fullShare} f) ∗ (ℓ ↦[C]{fullShare} f)) := by
  rw [← h]
  constructor
  · iintro H
    ihave H := (pointsTo_union h₂).1 $$ H
    icases H with ⟨H, HC⟩
    ihave H := (pointsTo_union h₁).1 $$ H
    icases H with ⟨HA, HB⟩
    isplitl [HA]; · iexact HA
    isplitl [HB] <;> iassumption
  · iintro ⟨HA, HB, HC⟩
    iapply (pointsTo_union h₂).2
    isplitl [HA HB]
    · iapply (pointsTo_union h₁).2; isplitl [HA] <;> iassumption
    · iexact HC

theorem hChunks (c : Dev nD) (f : S512x4096.Idx → Elt F .f32) :
    wholePts (F := F) c main_arg1 f ⊣⊢ iprop(hPts c wR0 (fun _ => rfl) f ∗ hPts c wR1 (fun _ => rfl) f ∗ hPts c wR2 (fun _ => rfl) f) := by
  unfold hPts
  have hs : ∀ r hr, (wH.slice r hr).view.set = r.set := fun r hr => View.set_slice_whole main_arg1 r
  rw [hs, hs, hs]
  have h := three_parts (F := F) ((c : Thread nD τ).loc main_arg1) wR0.set wR1.set wR2.set wR_disjoint.1 wR_disjoint.2 wR_cover f
  exact h
theorem vChunks (c : Dev nD) (f : S512x4096.Idx → Elt F .f32) :
    wholePts (F := F) c cc0_scratch1 f ⊣⊢ iprop(vPts c wR0 (fun _ => rfl) f ∗ vPts c wR1 (fun _ => rfl) f ∗ vPts c wR2 (fun _ => rfl) f) := by
  unfold vPts
  have hs : ∀ r hr, (wV.slice r hr).view.set = r.set := fun r hr => View.set_slice_whole cc0_scratch1 r
  rw [hs, hs, hs]
  have h := three_parts (F := F) ((c : Thread nD τ).loc cc0_scratch1) wR0.set wR1.set wR2.set wR_disjoint.1 wR_disjoint.2 wR_cover f
  exact h

/-- What a landed copy of a chunk holds. -/
theorem chunk_landed (c : Dev nD) (r : Rect S512x4096) (hr : ∀ a, r.stride a = 1) (fd fs : S512x4096.Idx → Elt F .f32) :
    ((wV.slice r hr).view.loc (c : Thread nD τ) ↦[(wV.slice r hr).view.set]{fullShare}
        ((wV.slice r hr).view.write (Elt F) fd ((ReadAs.same (Val := Elt F)).apply ((wH.slice r hr).view.read (Elt F) fs)) Finset.univ) : sProp 𝕄)
      = vPts c r hr fs := by
  unfold vPts
  exact pointsTo_congr fun i hi => chunk_copied r hr fd fs i (by rw [← View.set_slice_whole cc0_scratch1 r]; exact hi)

/-- The load of a chunk. -/
theorem chunk_load (c : Dev nD) (r : Rect S512x4096) (hr : ∀ a, r.stride a = 1) (f : S512x4096.Idx → Elt F .f32)
    {hl : wV.view.LoadsAt r.toLoadRect} {α : Type} {Q : α → sProp 𝕄} {k : (r.toLoadRect.shape.Idx → Elt F .f32) → Prog (TpuEff nD τ sig (Elt F) Λ₀ .tc) α} :
    vPts c r hr f ⊢ iprop((vPts c r hr f -∗ runs c (k (chunk r f)) Q) -∗ runs c (.op (.load wV r.toLoadRect hl) k) Q) := by
  unfold vPts
  have hs : wV.view.setOn r.toLoadRect.set ⊆ (wV.slice r hr).view.set := by
    rw [View.set_slice_whole cc0_scratch1 r]; exact (Finset.map_refl (s := r.toLoadRect.set)).subset
  have h := wp_load (defs := defs₀ (F := F)) (Q := Q) (k := k) (hl := hl) (Γ := .empty) 𝒱₀ (c : Thread nD τ) none Set.univ (m := wV) (q := fullShare)
    (S := (wV.slice r hr).view.set) (f := (f : Buf (Elt F) (wV.view.loc (c : Thread nD τ)))) hs
  exact h

/-! ## The table -/

/-- The whole table of device `c` at a share, holding `f`. -/
def tabPts (c : Dev nD) (q : PosShare TreeShare) (f : S16x3x256.Idx → Elt F .bf16) : sProp 𝕄 :=
  tab.view.loc (c : Thread nD τ) ↦[(Finset.univ : Finset S16x3x256.Idx)]{q} (f : Buf (Elt F) (tab.view.loc (c : Thread nD τ)))

theorem tab_whole (c : Dev nD) (f : S16x3x256.Idx → Elt F .bf16) : wholePts (F := F) c cc0_scratch4 f = tabPts c fullShare f := rfl

theorem tab_rows (c : Dev nD) (q : PosShare TreeShare) (f : S16x3x256.Idx → Elt F .bf16) :
    tabPts c q f ⊣⊢ iprop(rowPts c 0 q f ∗ bigSep Finset.univ fun j : Fin 15 => rowPts c j.succ q f) := by
  have hb : (bigSep Finset.univ fun j : Fin 15 => rowPts (F := F) c j.succ q f)
      = (tab.view.loc (c : Thread nD τ) ↦[tailSet]{q} (f : Buf (Elt F) (tab.view.loc (c : Thread nD τ)))) :=
    (pointsTo_biUnion (ℓ := tab.view.loc (c : Thread nD τ)) Finset.univ (fun j : Fin 15 => rowSet j.succ)
      (fun j _ j' _ h => rowSet_disjoint fun hh => h (Fin.succ_injective 15 hh))).symm
  rw [hb]
  unfold tabPts rowPts
  rw [← row_tail]
  exact pointsTo_union row_tail_disjoint

/-- A row at full share is what is kept back together with the fifteen shares the transfers read. -/
theorem row_shares (c : Dev nD) (r : Fin 16) (f : S16x3x256.Idx → Elt F .bf16) :
    rowPts c r fullShare f ⊣⊢ iprop(rowPts c r (Transfers.shareDrop fullShare 15) f
      ∗ bigSep Finset.univ fun j : Fin 15 => rowPts c r (Transfers.shareTokN fullShare j.val) f) := by
  unfold rowPts
  exact Transfers.pointsTo_toks fullShare 15

/-- The load of one statistic down the table. -/
theorem load_tab (c : Dev nD) (q : PosShare TreeShare) (f : S16x3x256.Idx → Elt F .bf16) {r : LoadRect S16x3x256} {hl : tab.view.LoadsAt r}
    {α : Type} {Q : α → sProp 𝕄} {k : (r.shape.Idx → Elt F .bf16) → Prog (TpuEff nD τ sig (Elt F) Λ₀ .tc) α} :
    tabPts c q f ⊢ iprop((tabPts c q f -∗ runs c (k (tab.view.readAt (Elt F) r f)) Q) -∗ runs c (.op (.load tab r hl) k) Q) := by
  have h := wp_load (defs := defs₀ (F := F)) (Q := Q) (k := k) (hl := hl) (Γ := .empty) 𝒱₀ (c : Thread nD τ) none Set.univ (m := tab)
    (q := q) (S := Finset.univ) (f := (f : Buf (Elt F) (tab.view.loc (c : Thread nD τ)))) (Finset.subset_univ _)
  exact h

/-- The rectangle of the table that is its row 0. -/
abbrev row0R : Rect S16x3x256 := Rect.unit (s := S16x3x256) ![0, 0, 0] S1x3x256.size inb_S16x3x256_S1x3x256_0_0_0

theorem row0_set : row0R.set = rowSet 0 := by
  rw [← View.set_slice_whole cc0_scratch4]; exact (View.set_reshape (h := squeezes_S1x3x256_S3x256.numel_eq) _).symm

/-- The load of row 0 whose value is not used, and the store of the device's statistics there. -/
theorem load_row (c : Dev nD) (f : S16x3x256.Idx → Elt F .bf16) {hl : tab.view.LoadsAt row0R.toLoadRect}
    {α : Type} {Q : α → sProp 𝕄} {p : Prog (TpuEff nD τ sig (Elt F) Λ₀ .tc) α} :
    rowPts c 0 fullShare f ⊢ iprop((rowPts c 0 fullShare f -∗ runs c p Q) -∗ runs c (.op (.load tab row0R.toLoadRect hl) fun _ => p) Q) := by
  have h := wp_load (defs := defs₀ (F := F)) (Q := Q) (k := fun _ => p) (hl := hl) (Γ := .empty) 𝒱₀ (c : Thread nD τ) none Set.univ (m := tab)
    (q := fullShare) (S := rowSet 0) (f := (f : Buf (Elt F) (tab.view.loc (c : Thread nD τ))))
    (((Finset.map_refl (s := row0R.toLoadRect.set)).trans row0_set).subset)
  exact h
theorem store_row (m : (ℓ : Loc nD τ sig) → Buf (Elt F) ℓ) (c : Dev nD) (f : S16x3x256.Idx → Elt F .bf16) {hx} {hm}
    {α : Type} {Q : α → sProp 𝕄} {k : PUnit → Prog (TpuEff nD τ sig (Elt F) Λ₀ .tc) α} :
    rowPts c 0 fullShare f ⊢ iprop((rowPts c 0 fullShare (tabOf m c) -∗ runs c (k ⟨⟩) Q)
      -∗ runs c (.op (.store tab row0R (packed m c) Finset.univ hx hm) k) Q) := by
  rw [← rowPts_congr c 0 fullShare (stored_row m c f)]
  have h := wp_store (defs := defs₀ (F := F)) (Q := Q) (k := k) (hx := hx) (hm := hm) (Γ := .empty) 𝒱₀ (c : Thread nD τ) none Set.univ (m := tab)
    (w := packed m c) (r := row0R) (Mk := Finset.univ) (S := rowSet 0)
    (f := (f : Buf (Elt F) (tab.view.loc (c : Thread nD τ)))) (((View.set_slice_whole cc0_scratch4 row0R).trans row0_set).subset)
  exact h

end Cert.Own

end
-- ==== Proof.Body.lean ====
/-
The kernel's body on one device, run once at a symbolic device: one rule per memory operation, in program order.
-/
module

public import proofs.«01_k».proof.Proof.Local

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The semaphore of device `c` at zero. -/
abbrev rest (c : Dev nD) (s : DmaSem sig) : sProp 𝕄 := semVal ((c : Thread nD τ), .dma s) 0

/-- The semaphores of the local copies, all at zero. -/
def localSems (c : Dev nD) : sProp 𝕄 :=
  iprop(rest (F := F) c xS ∗ rest (F := F) c lS ∗ rest (F := F) c w0S ∗ rest (F := F) c w1S ∗ rest (F := F) c w2S ∗ rest (F := F) c oS)

/-- The four arrays outside the kernel, the result holding `r`. -/
def outer (c : Dev nD) (r : Vec F S256 .f32) : sProp 𝕄 :=
  iprop(wholePts (F := F) c main_arg0 (xOf m c) ∗ wholePts (F := F) c main_arg1 (wOf m c) ∗ wholePts (F := F) c main_arg2 (labOf m c) ∗ wholePts (F := F) c main_v1 r)

/-- The five scratch buffers, whatever they hold. -/
def scratch (c : Dev nD) : sProp 𝕄 :=
  iprop((∃ f, wholePts (F := F) c cc0_scratch0 f) ∗ (∃ f, wholePts (F := F) c cc0_scratch1 f) ∗ (∃ f, wholePts (F := F) c cc0_scratch2 f)
    ∗ (∃ f, wholePts (F := F) c cc0_scratch3 f) ∗ (∃ f, wholePts (F := F) c cc0_scratch4 f))

/-- Device `c`'s place on its three cells, and its fifteen tokens of each kind: to signal, to send, to land. -/
def tokens (c : Dev nD) : sProp 𝕄 :=
  iprop((atPos ER (barCell c) 0 ∅ 0 ∗ atPos ER (sendCell c) 0 ∅ 0 ∗ atPos ER (recvCell c) 0 ∅ 0)
    ∗ (bigSep Finset.univ fun j : Fin 15 => dutyTok ER (barCell (ahead c j)) 0 j)
    ∗ (bigSep Finset.univ fun j : Fin 15 => dutyTok ER (sendCell c) 0 j)
    ∗ (bigSep Finset.univ fun j : Fin 15 => dutyTok ER (recvCell (ahead c j)) 0 j))

/-- What the body starts from. -/
def bodyPre (K : Dev nD × Fin 3 → ℕ) (c : Dev nD) : sProp 𝕄 :=
  iprop(records m K ∗ levAts L lv ∗ owesE c (O₀ c) ∗ tokens (F := F) c
    ∗ cred (tallyAt (barCell c) () 15) ∗ cred (tallyAt (recvCell c) () (15 * N))
    ∗ localSems (F := F) c ∗ outer m c (m ((c : Thread nD τ).loc main_v1)) ∗ scratch (F := F) c)

/-- What it ends in. -/
def bodyPost (c : Dev nD) : sProp 𝕄 :=
  iprop(owesE c 0 ∗ (semVal (barCell c) 0 ∗ semVal (sendCell c) 0 ∗ semVal (recvCell c) 0)
    ∗ localSems (F := F) c ∗ outer m c (outOf m c) ∗ scratch (F := F) c)

theorem rows_forget (c : Dev nD) (f : S16x3x256.Idx → Elt F .bf16) :
    (bigSep Finset.univ fun j : Fin 15 => rowPts (F := F) c (flip j).succ fullShare f)
      ⊢ bigSep Finset.univ fun j : Fin 15 => iprop(∃ f, rowPts (F := F) c (flip j).succ fullShare f) :=
  bigSep_mono fun j _ => show rowPts (F := F) c (flip j).succ fullShare f ⊢ iprop(∃ f, rowPts (F := F) c (flip j).succ fullShare f) from by
    iintro H; iexists f; iexact H

/-- The signals' starting state. -/
theorem signals_start (c : Dev nD) (f : S16x3x256.Idx → Elt F .bf16) :
    iprop(owesE c (O₀ c) ∗ (bigSep Finset.univ fun j : Fin 15 => dutyTok ER (barCell (ahead c j)) 0 j)
        ∗ bigSep Finset.univ fun j : Fin 15 => rowPts c j.succ fullShare f)
      ⊢ (SigState (F := F) c 0 : sProp 𝕄) := by
  unfold SigState
  rw [show Finset.univ.filter (fun j : Fin 15 => 0 ≤ j.val) = Finset.univ from Finset.filter_true_of_mem fun j _ => Nat.zero_le _,
    bigSep_sep', show (bigSep Finset.univ fun j : Fin 15 => rowPts (F := F) c j.succ fullShare f)
      = bigSep Finset.univ fun j : Fin 15 => rowPts (F := F) c (flip j).succ fullShare f from bigSep_univ_equiv flips _]
  unfold O₀
  iintro ⟨HO, Ht, Hr⟩
  isplitl [HO]; · iexact HO
  isplitl [Ht]; · iexact Ht
  iapply (rows_forget (F := F) c f); iexact Hr

/-- And their final one: only landings are owed. -/
theorem signals_end (c : Dev nD) : (SigState (F := F) c 15 : sProp 𝕄) ⊢ owesE c (owSend c 15) := by
  unfold SigState
  rw [owSig_end, add_zero]
  iintro ⟨HO, -⟩; iexact HO

/-- The transfers' starting state. -/
theorem sends_start (c : Dev nD) :
    iprop(owesE c (owSend c 15) ∗ (bigSep Finset.univ fun j : Fin 15 => dutyTok ER (sendCell c) 0 j)
        ∗ (bigSep Finset.univ fun j : Fin 15 => dutyTok ER (recvCell (ahead c j)) 0 j)
        ∗ (bigSep Finset.univ fun j : Fin 15 => rowPts c 0 (Transfers.shareTokN fullShare j.val) (tabOf m c))
        ∗ bigSep Finset.univ fun j : Fin 15 => iprop(∃ f, rowPts (F := F) (ahead c j) j.succ fullShare f))
      ⊢ (SendState m c 15 : sProp 𝕄) := by
  unfold SendState
  rw [
    show Finset.univ.filter (fun j : Fin 15 => j.val < 15) = Finset.univ from Finset.filter_true_of_mem fun j _ => j.isLt,
    bigSep_sep', bigSep_sep', bigSep_sep', Nat.sub_self, Nat.zero_mul, tallyAt_zero, cred_zero]
  iintro ⟨HO, H1, H2, H3, H4⟩
  isplitl [HO]; · iexact HO
  isplitl [H1 H2 H3 H4]
  · isplitl [H1]; · iexact H1
    isplitl [H2]; · iexact H2
    isplitl [H3] <;> iassumption
  iempintro

/-- And their final one: nothing is owed, and the waits for the sends have their credit. -/
theorem sends_end (c : Dev nD) : (SendState m c 0 : sProp 𝕄) ⊢ iprop(owesE c 0 ∗ cred (tallyAt (sendCell c) () (15 * N))) := by
  unfold SendState
  rw [owSend_end]
  iintro ⟨HO, -, H⟩
  isplitl [HO] <;> iassumption

/-- The waits' starting state. -/
theorem waits_start (c : Dev nD) (s : DmaSem sig) :
    iprop(atPos ER ((c : Thread nD τ), .dma s) 0 ∅ 0 ∗ cred (tallyAt ((c : Thread nD τ), .dma s) () (15 * N))) ⊢ (WaitState m c s 0 : sProp 𝕄) := by
  unfold WaitState
  iintro ⟨Hat, Hc⟩
  iexists ∅
  rw [Nat.zero_mul, bigSep_empty]
  isplitl [Hat]; · iexact Hat
  isplitr; · iempintro
  iexact Hc

/-- A run that is over. -/
theorem runs_ret (c : Dev nD) {α : Type} (a : α) (Q : α → sProp 𝕄) : Q a ⊢ runs (F := F) c (.ret a) Q := by
  unfold runs; rw [wp_ret]; iintro H; imodintro; iexact H

/-- The stored result is the one named. -/
theorem stored_out (c : Dev nD) :
    (wholePts c cc0_scratch3 (k0_pay18 (k0_pay15 (col0 (tabOf m c))) (k0_pay16 (col1 (tabOf m c))) (k0_pay17 (col2 (tabOf m c)))) : sProp 𝕄)
      = wholePts c cc0_scratch3 (outOf m c) := by
  unfold outOf; rfl

/-- What `x` landed as. -/
theorem landed_x (c : Dev nD) (fd w : S256x512.Idx → Elt F .f32) :
    (xV.view.loc (c : Thread nD τ) ↦[xV.view.set]{fullShare}
        (xV.view.write (Elt F) fd ((ReadAs.same (Val := Elt F)).apply (xH.view.read (Elt F) w)) Finset.univ) : sProp 𝕄) = wholePts c cc0_scratch0 w :=
  whole_landed (F := F) c cc0_scratch0 fd w

/-- What the labels landed as. -/
theorem landed_l (c : Dev nD) (fd w : S256.Idx → Elt F .i32) :
    (lV.view.loc (c : Thread nD τ) ↦[lV.view.set]{fullShare}
        (lV.view.write (Elt F) fd ((ReadAs.same (Val := Elt F)).apply (lH.view.read (Elt F) w)) Finset.univ) : sProp 𝕄) = wholePts c cc0_scratch2 w :=
  whole_landed (F := F) c cc0_scratch2 fd w

/-- What the result landed as. -/
theorem landed_o (c : Dev nD) (fd w : S256.Idx → Elt F .f32) :
    (oH.view.loc (c : Thread nD τ) ↦[oH.view.set]{fullShare}
        (oH.view.write (Elt F) fd ((ReadAs.same (Val := Elt F)).apply (oV.view.read (Elt F) w)) Finset.univ) : sProp 𝕄) = wholePts c main_v1 w :=
  whole_landed (F := F) c main_v1 fd w

/-- The signal's step, its two states numbered. -/
theorem signal_at (K : Dev nD × Fin 3 → ℕ) (c : Dev nD) (j : Fin 15) (a b : ℕ) (ha : j.val = a) (hb : j.val + 1 = b) (n : Dev nD) (hn : n = ahead c j)
    {α : Type} {Q : α → sProp 𝕄} {k : PUnit → Prog (TpuEff nD τ sig (Elt F) Λ₀ .tc) α} :
    records m K
      ⊢ iprop(SigState c a -∗ (SigState c b -∗ runs c (k ⟨⟩) Q) -∗ runs c (.op (.semSignal (Dev.tc n : Thread nD τ) barS (1#32).toInt) k) Q) := by
  subst ha hb; exact signal_step m K c j n hn

/-- The transfer's step, its two states numbered. -/
theorem send_at (K : Dev nD × Fin 3 → ℕ) (c : Dev nD) (j : Fin 15) (a b : ℕ) (ha : j.val = a) (hb : j.val + 1 = b) (n : Dev nD) (hn : n = ahead c j)
    {hsc : (rowM j.succ : Memref sig (Dev.tc n : Thread nD τ).2.kind .vmem S3x256 .bf16).view.ref.isScScratch = false}
    {hsrc : (rowM 0).view.WordExact} {hdst : (rowM j.succ).view.WordExact}
    {hsem : DmaTarget.Typed .vmem (.dma recvS) (.remote (Dev.tc n : Thread nD τ) (rowM j.succ) (.dma sendS) hsc)}
    {α : Type} {Q : α → sProp 𝕄} {k : PUnit → Prog (TpuEff nD τ sig (Elt F) Λ₀ .tc) α} :
    records m K
      ⊢ iprop(SendState m c b -∗ (SendState m c a -∗ runs c (k ⟨⟩) Q)
          -∗ runs c (.op (.enqueueDma (rowM 0) (.remote (Dev.tc n : Thread nD τ) (rowM j.succ) (.dma sendS) hsc) (.dma recvS) hsrc hdst hsem) k) Q) := by
  subst ha hb; exact send_step m K c j n hn

/-- The landed rows, each as what is kept back of it and the fifteen other shares. -/
theorem landed_rows (c : Dev nD) :
    (bigSep Finset.univ fun d => (sched m).payload ((c : Thread nD τ), .dma recvS) 0 d)
      ⊣⊢ iprop((bigSep Finset.univ fun j : Fin 15 => rowPts c j.succ (Transfers.shareDrop fullShare 15) (tabOf m c))
        ∗ bigSep Finset.univ fun j : Fin 15 => bigSep Finset.univ fun i : Fin 15 => rowPts c j.succ (Transfers.shareTokN fullShare i.val) (tabOf m c)) := by
  rw [← bigSep_sep', show (bigSep Finset.univ fun d => (sched (F := F) m).payload ((c : Thread nD τ), .dma recvS) 0 d)
    = bigSep Finset.univ fun j : Fin 15 => rowPts c j.succ fullShare (tabOf m c) from bigSep_congr fun d _ => payload_recv m c d]
  exact ⟨show _ ⊢ _ from bigSep_mono fun j _ => (row_shares (F := F) c j.succ (tabOf m c)).1,
    show _ ⊢ _ from bigSep_mono fun j _ => (row_shares (F := F) c j.succ (tabOf m c)).2⟩

/-- The shares the transfers read, back together with what was kept: row 0 whole again. -/
theorem sent_back (c : Dev nD) :
    iprop(rowPts c 0 (Transfers.shareDrop fullShare 15) (tabOf m c) ∗ bigSep Finset.univ fun d => (sched m).payload ((c : Thread nD τ), .dma sendS) 0 d)
      ⊢ rowPts c 0 fullShare (tabOf m c) := by
  rw [show (bigSep Finset.univ fun d => (sched (F := F) m).payload ((c : Thread nD τ), .dma sendS) 0 d)
    = bigSep Finset.univ fun j : Fin 15 => rowPts c 0 (Transfers.shareTokN fullShare j.val) (tabOf m c) from bigSep_congr fun d _ => payload_send m c d]
  exact (row_shares (F := F) c 0 (tabOf m c)).2

/-- The landed rows, whole again. -/
theorem landed_full (c : Dev nD) :
    iprop((bigSep Finset.univ fun j : Fin 15 => rowPts c j.succ (Transfers.shareDrop fullShare 15) (tabOf m c))
        ∗ bigSep Finset.univ fun j : Fin 15 => bigSep Finset.univ fun i : Fin 15 => rowPts c j.succ (Transfers.shareTokN fullShare i.val) (tabOf m c))
      ⊢ bigSep Finset.univ fun j : Fin 15 => rowPts c j.succ fullShare (tabOf m c) := by
  rw [show (bigSep Finset.univ fun j : Fin 15 => rowPts c j.succ fullShare (tabOf m c))
    = bigSep Finset.univ fun d => (sched (F := F) m).payload ((c : Thread nD τ), .dma recvS) 0 d from (bigSep_congr fun d _ => payload_recv m c d).symm]
  exact (landed_rows m c).2

set_option maxHeartbeats 4000000 in
set_option maxRecDepth 8000 in
set_option pp.maxSteps 400 in
/-- The body, from `bodyPre` to `bodyPost`. -/
theorem sound_body (K : Dev nD × Fin 3 → ℕ) (c : Dev nD) (Q : PUnit → sProp 𝕄) :
    iprop(bodyPre m K c ∗ (bodyPost m c -∗ Q ⟨⟩))
      ⊢ runs c (cc0_body (Memref.whole main_arg0) (Memref.isWhole_whole _) (Memref.whole main_arg1) (Memref.isWhole_whole _)
          (Memref.whole main_arg2) (Memref.isWhole_whole _) (Memref.whole main_v1) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _)
          cc0_scratch5 cc0_scratch6 cc0_scratch7 cc0_scratch8 cc0_scratch9 cc0_scratch10 cc0_scratch11) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre tokens localSems outer scratch
  iintro ⟨⟨#HR, #HL, HO, ⟨⟨HaB, HaS, HaV⟩, HtB, HtS, HtV⟩, HcB, HcV, ⟨Zx, Zl, Z0, Z1, Z2, Zo⟩, ⟨Hx, HW, Hl, Hout⟩,
    ⟨⟨%fx, Vx⟩, ⟨%fw, Vw⟩, ⟨%fl, Vl⟩, ⟨%fo, Vo⟩, ⟨%ft, Vt⟩⟩⟩, Hk⟩
  -- the copies in
  ihave Hx := (Entails.of_eq (whole_view (F := F) c main_arg0 (xOf m c))) $$ Hx
  ihave Vx := (Entails.of_eq (whole_view (F := F) c cc0_scratch0 fx)) $$ Vx
  iapply (local_start c xS (src := xH) (dst := xV) (View.dmaCredit_pos _ (by decide)) (xOf m c) fx) $$ Hx Vx Zx
  iintro Fx
  ihave Hl := (Entails.of_eq (whole_view (F := F) c main_arg2 (labOf m c))) $$ Hl
  ihave Vl := (Entails.of_eq (whole_view (F := F) c cc0_scratch2 fl)) $$ Vl
  iapply (local_start c lS (src := lH) (dst := lV) (View.dmaCredit_pos _ (by decide)) (labOf m c) fl) $$ Hl Vl Zl
  iintro Fl
  ihave HW := (hChunks (F := F) c (wOf m c)).1 $$ HW
  icases HW with ⟨H0, H1, H2⟩
  ihave Vw := (vChunks (F := F) c fw).1 $$ Vw
  icases Vw with ⟨V0, V1, V2⟩
  unfold hPts vPts
  iapply (local_start c w0S (src := wH.slice wR0 (fun _ => rfl)) (dst := wV.slice wR0 (fun _ => rfl)) (View.dmaCredit_pos _ (by decide)) (wOf m c) fw) $$ H0 V0 Z0
  iintro F0
  iapply (local_start c w1S (src := wH.slice wR1 (fun _ => rfl)) (dst := wV.slice wR1 (fun _ => rfl)) (View.dmaCredit_pos _ (by decide)) (wOf m c) fw) $$ H1 V1 Z1
  iintro F1
  iapply (local_start c w2S (src := wH.slice wR2 (fun _ => rfl)) (dst := wV.slice wR2 (fun _ => rfl)) (View.dmaCredit_pos _ (by decide)) (wOf m c) fw) $$ H2 V2 Z2
  iintro F2
  -- the fifteen signals
  ihave Vt := (Entails.of_eq (tab_whole (F := F) c ft)) $$ Vt
  ihave Vt := (tab_rows (F := F) c fullShare ft).1 $$ Vt
  icases Vt with ⟨T0, Ts⟩
  ihave Hs := (signals_start (F := F) c ft) $$ [HO HtB Ts]
  · isplitl [HO]; · iexact HO
    isplitl [HtB] <;> iassumption
  iapply (signal_at m K c 0 0 1 rfl rfl ⟨k0_dev1 c, k0_dev1_lt c⟩ (Fin.ext (k0_dev1_eq c))) $$ HR Hs; iintro Hs
  iapply (signal_at m K c 1 1 2 rfl rfl ⟨k0_dev2 c, k0_dev2_lt c⟩ (Fin.ext (k0_dev2_eq c))) $$ HR Hs; iintro Hs
  iapply (signal_at m K c 2 2 3 rfl rfl ⟨k0_dev3 c, k0_dev3_lt c⟩ (Fin.ext (k0_dev3_eq c))) $$ HR Hs; iintro Hs
  iapply (signal_at m K c 3 3 4 rfl rfl ⟨k0_dev4 c, k0_dev4_lt c⟩ (Fin.ext (k0_dev4_eq c))) $$ HR Hs; iintro Hs
  iapply (signal_at m K c 4 4 5 rfl rfl ⟨k0_dev5 c, k0_dev5_lt c⟩ (Fin.ext (k0_dev5_eq c))) $$ HR Hs; iintro Hs
  iapply (signal_at m K c 5 5 6 rfl rfl ⟨k0_dev6 c, k0_dev6_lt c⟩ (Fin.ext (k0_dev6_eq c))) $$ HR Hs; iintro Hs
  iapply (signal_at m K c 6 6 7 rfl rfl ⟨k0_dev7 c, k0_dev7_lt c⟩ (Fin.ext (k0_dev7_eq c))) $$ HR Hs; iintro Hs
  iapply (signal_at m K c 7 7 8 rfl rfl ⟨k0_dev8 c, k0_dev8_lt c⟩ (Fin.ext (k0_dev8_eq c))) $$ HR Hs; iintro Hs
  iapply (signal_at m K c 8 8 9 rfl rfl ⟨k0_dev9 c, k0_dev9_lt c⟩ (Fin.ext (k0_dev9_eq c))) $$ HR Hs; iintro Hs
  iapply (signal_at m K c 9 9 10 rfl rfl ⟨k0_dev10 c, k0_dev10_lt c⟩ (Fin.ext (k0_dev10_eq c))) $$ HR Hs; iintro Hs
  iapply (signal_at m K c 10 10 11 rfl rfl ⟨k0_dev11 c, k0_dev11_lt c⟩ (Fin.ext (k0_dev11_eq c))) $$ HR Hs; iintro Hs
  iapply (signal_at m K c 11 11 12 rfl rfl ⟨k0_dev12 c, k0_dev12_lt c⟩ (Fin.ext (k0_dev12_eq c))) $$ HR Hs; iintro Hs
  iapply (signal_at m K c 12 12 13 rfl rfl ⟨k0_dev13 c, k0_dev13_lt c⟩ (Fin.ext (k0_dev13_eq c))) $$ HR Hs; iintro Hs
  iapply (signal_at m K c 13 13 14 rfl rfl ⟨k0_dev14 c, k0_dev14_lt c⟩ (Fin.ext (k0_dev14_eq c))) $$ HR Hs; iintro Hs
  iapply (signal_at m K c 14 14 15 rfl rfl ⟨k0_dev15 c, k0_dev15_lt c⟩ (Fin.ext (k0_dev15_eq c))) $$ HR Hs; iintro Hs
  ihave HO := (signals_end (F := F) c) $$ Hs
  -- the copies' landings, and the loads
  iapply (local_wait c 15 xS (by decide) _ rfl _) $$ HL HO Fx; iintro ⟨HO, ⟨Vx, Hx⟩, Zx⟩
  ihave Vx := (Entails.of_eq (landed_x c fx (xOf m c))) $$ Vx
  iapply (load_x c (xOf m c)) $$ Vx; iintro Vx
  iapply (local_wait c 15 lS (by decide) _ rfl _) $$ HL HO Fl; iintro ⟨HO, ⟨Vl, Hl⟩, Zl⟩
  ihave Vl := (Entails.of_eq (landed_l c fl (labOf m c))) $$ Vl
  iapply (load_l c (labOf m c)) $$ Vl; iintro Vl
  iapply (local_wait c 15 w0S (by decide) _ rfl _) $$ HL HO F0; iintro ⟨HO, ⟨V0, H0⟩, Z0⟩
  ihave V0 := (Entails.of_eq (chunk_landed (F := F) c wR0 (fun _ => rfl) fw (wOf m c))) $$ V0
  iapply (chunk_load c wR0 (fun _ => rfl) (wOf m c)) $$ V0; iintro V0
  iapply (local_wait c 15 w1S (by decide) _ rfl _) $$ HL HO F1; iintro ⟨HO, ⟨V1, H1⟩, Z1⟩
  ihave V1 := (Entails.of_eq (chunk_landed (F := F) c wR1 (fun _ => rfl) fw (wOf m c))) $$ V1
  iapply (chunk_load c wR1 (fun _ => rfl) (wOf m c)) $$ V1; iintro V1
  iapply (local_wait c 15 w2S (by decide) _ rfl _) $$ HL HO F2; iintro ⟨HO, ⟨V2, H2⟩, Z2⟩
  ihave V2 := (Entails.of_eq (chunk_landed (F := F) c wR2 (fun _ => rfl) fw (wOf m c))) $$ V2
  iapply (chunk_load c wR2 (fun _ => rfl) (wOf m c)) $$ V2; iintro V2
  -- the device's own row
  iapply (load_row c ft) $$ T0; iintro T0
  iapply (store_row m c ft) $$ T0; iintro T0
  iapply (barrier_step m K c) $$ HR HL HO HcB HaB; iintro ⟨HO, Hrows, HaB⟩
  imod (cell_done m K c 0) $$ [HaB] with Zbar
  · isplitr; · iexact HR
    iexact HaB
  -- the fifteen transfers
  ihave T0 := (row_shares (F := F) c 0 (tabOf m c)).1 $$ T0
  icases T0 with ⟨T0, Ts⟩
  ihave Hs := (sends_start m c) $$ [HO HtS HtV Ts Hrows]
  · isplitl [HO]; · iexact HO
    isplitl [HtS]; · iexact HtS
    isplitl [HtV]; · iexact HtV
    isplitl [Ts] <;> iassumption
  iapply (send_at m K c 14 14 15 rfl rfl ⟨k0_dev16 c, k0_dev16_lt c⟩ (Fin.ext (k0_dev16_eq c))) $$ HR Hs; iintro Hs
  iapply (send_at m K c 13 13 14 rfl rfl ⟨k0_dev17 c, k0_dev17_lt c⟩ (Fin.ext (k0_dev17_eq c))) $$ HR Hs; iintro Hs
  iapply (send_at m K c 12 12 13 rfl rfl ⟨k0_dev18 c, k0_dev18_lt c⟩ (Fin.ext (k0_dev18_eq c))) $$ HR Hs; iintro Hs
  iapply (send_at m K c 11 11 12 rfl rfl ⟨k0_dev19 c, k0_dev19_lt c⟩ (Fin.ext (k0_dev19_eq c))) $$ HR Hs; iintro Hs
  iapply (send_at m K c 10 10 11 rfl rfl ⟨k0_dev20 c, k0_dev20_lt c⟩ (Fin.ext (k0_dev20_eq c))) $$ HR Hs; iintro Hs
  iapply (send_at m K c 9 9 10 rfl rfl ⟨k0_dev21 c, k0_dev21_lt c⟩ (Fin.ext (k0_dev21_eq c))) $$ HR Hs; iintro Hs
  iapply (send_at m K c 8 8 9 rfl rfl ⟨k0_dev22 c, k0_dev22_lt c⟩ (Fin.ext (k0_dev22_eq c))) $$ HR Hs; iintro Hs
  iapply (send_at m K c 7 7 8 rfl rfl ⟨k0_dev23 c, k0_dev23_lt c⟩ (Fin.ext (k0_dev23_eq c))) $$ HR Hs; iintro Hs
  iapply (send_at m K c 6 6 7 rfl rfl ⟨k0_dev24 c, k0_dev24_lt c⟩ (Fin.ext (k0_dev24_eq c))) $$ HR Hs; iintro Hs
  iapply (send_at m K c 5 5 6 rfl rfl ⟨k0_dev25 c, k0_dev25_lt c⟩ (Fin.ext (k0_dev25_eq c))) $$ HR Hs; iintro Hs
  iapply (send_at m K c 4 4 5 rfl rfl ⟨k0_dev26 c, k0_dev26_lt c⟩ (Fin.ext (k0_dev26_eq c))) $$ HR Hs; iintro Hs
  iapply (send_at m K c 3 3 4 rfl rfl ⟨k0_dev27 c, k0_dev27_lt c⟩ (Fin.ext (k0_dev27_eq c))) $$ HR Hs; iintro Hs
  iapply (send_at m K c 2 2 3 rfl rfl ⟨k0_dev28 c, k0_dev28_lt c⟩ (Fin.ext (k0_dev28_eq c))) $$ HR Hs; iintro Hs
  iapply (send_at m K c 1 1 2 rfl rfl ⟨k0_dev29 c, k0_dev29_lt c⟩ (Fin.ext (k0_dev29_eq c))) $$ HR Hs; iintro Hs
  iapply (send_at m K c 0 0 1 rfl rfl ⟨k0_dev30 c, k0_dev30_lt c⟩ (Fin.ext (k0_dev30_eq c))) $$ HR Hs; iintro Hs
  ihave Hs := (sends_end m c) $$ Hs
  icases Hs with ⟨HO, HcS⟩
  -- the fifteen landings
  ihave Hw := (waits_start m c recvS) $$ [HaV HcV]
  · isplitl [HaV] <;> iassumption
  iapply (wait_step m K c 2 recvS rfl 0 (by decide) (src := rowM 0) (dst := rowM 1) rfl) $$ HR HO Hw; iintro HO Hw
  iapply (wait_step m K c 2 recvS rfl 1 (by decide) (src := rowM 0) (dst := rowM 1) rfl) $$ HR HO Hw; iintro HO Hw
  iapply (wait_step m K c 2 recvS rfl 2 (by decide) (src := rowM 0) (dst := rowM 1) rfl) $$ HR HO Hw; iintro HO Hw
  iapply (wait_step m K c 2 recvS rfl 3 (by decide) (src := rowM 0) (dst := rowM 1) rfl) $$ HR HO Hw; iintro HO Hw
  iapply (wait_step m K c 2 recvS rfl 4 (by decide) (src := rowM 0) (dst := rowM 1) rfl) $$ HR HO Hw; iintro HO Hw
  iapply (wait_step m K c 2 recvS rfl 5 (by decide) (src := rowM 0) (dst := rowM 1) rfl) $$ HR HO Hw; iintro HO Hw
  iapply (wait_step m K c 2 recvS rfl 6 (by decide) (src := rowM 0) (dst := rowM 1) rfl) $$ HR HO Hw; iintro HO Hw
  iapply (wait_step m K c 2 recvS rfl 7 (by decide) (src := rowM 0) (dst := rowM 1) rfl) $$ HR HO Hw; iintro HO Hw
  iapply (wait_step m K c 2 recvS rfl 8 (by decide) (src := rowM 0) (dst := rowM 1) rfl) $$ HR HO Hw; iintro HO Hw
  iapply (wait_step m K c 2 recvS rfl 9 (by decide) (src := rowM 0) (dst := rowM 1) rfl) $$ HR HO Hw; iintro HO Hw
  iapply (wait_step m K c 2 recvS rfl 10 (by decide) (src := rowM 0) (dst := rowM 1) rfl) $$ HR HO Hw; iintro HO Hw
  iapply (wait_step m K c 2 recvS rfl 11 (by decide) (src := rowM 0) (dst := rowM 1) rfl) $$ HR HO Hw; iintro HO Hw
  iapply (wait_step m K c 2 recvS rfl 12 (by decide) (src := rowM 0) (dst := rowM 1) rfl) $$ HR HO Hw; iintro HO Hw
  iapply (wait_step m K c 2 recvS rfl 13 (by decide) (src := rowM 0) (dst := rowM 1) rfl) $$ HR HO Hw; iintro HO Hw
  iapply (wait_last m K c 2 recvS rfl (src := rowM 0) (dst := rowM 1) rfl) $$ HR HO Hw; iintro ⟨HO, Hp, HaV⟩
  imod (cell_done m K c 2) $$ [HaV] with Zrecv
  · isplitr; · iexact HR
    iexact HaV
  -- the finished table, read at the share kept back
  ihave Hp := (landed_rows m c).1 $$ Hp
  icases Hp with ⟨Hp, Hq⟩
  ihave Vt := (tab_rows (F := F) c (Transfers.shareDrop fullShare 15) (tabOf m c)).2 $$ [T0 Hp]
  · isplitl [T0] <;> iassumption
  iapply (load_tab c _ (tabOf m c)) $$ Vt; iintro Vt
  iapply (load_tab c _ (tabOf m c)) $$ Vt; iintro Vt
  iapply (load_tab c _ (tabOf m c)) $$ Vt; iintro Vt
  ihave Vt := (tab_rows (F := F) c (Transfers.shareDrop fullShare 15) (tabOf m c)).1 $$ Vt
  icases Vt with ⟨T0, Hp⟩
  ihave Hp := (landed_full m c) $$ [Hp Hq]
  · isplitl [Hp] <;> iassumption
  -- the result, stored and copied out
  iapply (load_dead c fo) $$ Vo; iintro Vo
  iapply (store_o c fo) $$ Vo; iintro Vo
  ihave Vo := (Entails.of_eq (stored_out m c)) $$ Vo
  ihave Vo := (Entails.of_eq (whole_view (F := F) c cc0_scratch3 (outOf m c))) $$ Vo
  ihave Hout := (Entails.of_eq (whole_view (F := F) c main_v1 (m ((c : Thread nD τ).loc main_v1)))) $$ Hout
  iapply (local_start c oS (src := oV) (dst := oH) (View.dmaCredit_pos _ (by decide)) (outOf m c) (m ((c : Thread nD τ).loc main_v1))) $$ Vo Hout Zo
  iintro Fo
  -- the fifteen sends' ends
  ihave Hw := (waits_start m c sendS) $$ [HaS HcS]
  · isplitl [HaS] <;> iassumption
  iapply (wait_step m K c 1 sendS rfl 0 (by decide) (src := rowM 1) (dst := rowM 0) rfl) $$ HR HO Hw; iintro HO Hw
  iapply (wait_step m K c 1 sendS rfl 1 (by decide) (src := rowM 1) (dst := rowM 0) rfl) $$ HR HO Hw; iintro HO Hw
  iapply (wait_step m K c 1 sendS rfl 2 (by decide) (src := rowM 1) (dst := rowM 0) rfl) $$ HR HO Hw; iintro HO Hw
  iapply (wait_step m K c 1 sendS rfl 3 (by decide) (src := rowM 1) (dst := rowM 0) rfl) $$ HR HO Hw; iintro HO Hw
  iapply (wait_step m K c 1 sendS rfl 4 (by decide) (src := rowM 1) (dst := rowM 0) rfl) $$ HR HO Hw; iintro HO Hw
  iapply (wait_step m K c 1 sendS rfl 5 (by decide) (src := rowM 1) (dst := rowM 0) rfl) $$ HR HO Hw; iintro HO Hw
  iapply (wait_step m K c 1 sendS rfl 6 (by decide) (src := rowM 1) (dst := rowM 0) rfl) $$ HR HO Hw; iintro HO Hw
  iapply (wait_step m K c 1 sendS rfl 7 (by decide) (src := rowM 1) (dst := rowM 0) rfl) $$ HR HO Hw; iintro HO Hw
  iapply (wait_step m K c 1 sendS rfl 8 (by decide) (src := rowM 1) (dst := rowM 0) rfl) $$ HR HO Hw; iintro HO Hw
  iapply (wait_step m K c 1 sendS rfl 9 (by decide) (src := rowM 1) (dst := rowM 0) rfl) $$ HR HO Hw; iintro HO Hw
  iapply (wait_step m K c 1 sendS rfl 10 (by decide) (src := rowM 1) (dst := rowM 0) rfl) $$ HR HO Hw; iintro HO Hw
  iapply (wait_step m K c 1 sendS rfl 11 (by decide) (src := rowM 1) (dst := rowM 0) rfl) $$ HR HO Hw; iintro HO Hw
  iapply (wait_step m K c 1 sendS rfl 12 (by decide) (src := rowM 1) (dst := rowM 0) rfl) $$ HR HO Hw; iintro HO Hw
  iapply (wait_step m K c 1 sendS rfl 13 (by decide) (src := rowM 1) (dst := rowM 0) rfl) $$ HR HO Hw; iintro HO Hw
  iapply (wait_last m K c 1 sendS rfl (src := rowM 1) (dst := rowM 0) rfl) $$ HR HO Hw; iintro ⟨HO, Ht, HaS⟩
  imod (cell_done m K c 1) $$ [HaS] with Zsend
  · isplitr; · iexact HR
    iexact HaS
  ihave T0 := (sent_back m c) $$ [T0 Ht]
  · isplitl [T0] <;> iassumption
  ihave HO := (Entails.of_eq (congrArg (owesE (F := F) c) (owSend_end c).symm)) $$ HO
  iapply (local_wait c 0 oS (by decide) _ rfl _) $$ HL HO Fo; iintro ⟨HO, ⟨Hout, Vo⟩, Zo⟩
  ihave HO := (Entails.of_eq (congrArg (owesE (F := F) c) (owSend_end c))) $$ HO
  iapply (runs_ret (F := F) c ⟨⟩ Q)
  iapply Hk
  unfold bodyPost localSems outer scratch
  isplitl [HO]; · iexact HO
  isplitl [Zbar Zsend Zrecv]
  · isplitl [Zbar]; · iexact Zbar
    isplitl [Zsend] <;> iassumption
  isplitl [Zx Zl Z0 Z1 Z2 Zo]
  · isplitl [Zx]; · iexact Zx
    isplitl [Zl]; · iexact Zl
    isplitl [Z0]; · iexact Z0
    isplitl [Z1]; · iexact Z1
    isplitl [Z2] <;> iassumption
  isplitl [Hx H0 H1 H2 Hl Hout]
  · isplitl [Hx]; · iapply (Entails.of_eq (whole_view (F := F) c main_arg0 (xOf m c)).symm); iexact Hx
    isplitl [H0 H1 H2]
    · iapply (hChunks (F := F) c (wOf m c)).2
      unfold hPts
      isplitl [H0]; · iexact H0
      isplitl [H1] <;> iassumption
    isplitl [Hl]; · iapply (Entails.of_eq (whole_view (F := F) c main_arg2 (labOf m c)).symm); iexact Hl
    iapply (Entails.of_eq (landed_o c (m ((c : Thread nD τ).loc main_v1)) (outOf m c))); iexact Hout
  isplitl [Vx]; · iexists (xOf m c); iexact Vx
  isplitl [V0 V1 V2]
  · iexists (wOf m c)
    iapply (vChunks (F := F) c (wOf m c)).2
    isplitl [V0]; · iexact V0
    isplitl [V1] <;> iassumption
  isplitl [Vl]; · iexists (labOf m c); iexact Vl
  isplitl [Vo]; · iexists (outOf m c); iapply (Entails.of_eq (whole_view (F := F) c cc0_scratch3 (outOf m c)).symm); iexact Vo
  iexists (tabOf m c)
  iapply (Entails.of_eq (tab_whole (F := F) c (tabOf m c)).symm)
  iapply (tab_rows (F := F) c fullShare (tabOf m c)).2
  isplitl [T0] <;> iassumption

end Cert.Own

end
-- ==== Proof.Run.lean ====
/-
The launch: the ghost state of the three kinds of cells made and dealt out, and the run of the whole mesh.
-/
module

public import proofs.«01_k».proof.Proof.Body
public import Idealize.ShloMosaic.Lib.Quiescent
public import Idealize.ShloMosaic.Lib.Pipeline.CollectiveSegs

@[expose] public section

noncomputable section

namespace Cert.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the launch hands over -/

/-- The kernel's ten semaphores: the six of the local copies, the two of the transfers, two it never touches. -/
abbrev osem : Fin 10 → SemLoc sig := fun
  | 0 => .dma xS | 1 => .dma lS | 2 => .dma w0S | 3 => .dma w1S | 4 => .dma w2S | 5 => .dma oS
  | 6 => .dma sendS | 7 => .dma recvS | 8 => .dma cc0_scratch10.sem | 9 => .dma cc0_scratch11.sem

theorem osem_facts : Pipeline.OwnSemFacts cfg0.spec osem := by decide

/-- The two semaphores no one touches. -/
def idleSems (c : Dev nD) : sProp 𝕄 := iprop(rest (F := F) c cc0_scratch10.sem ∗ rest (F := F) c cc0_scratch11.sem)

theorem ownSems_eq (c : Dev nD) : (Pipeline.ownSems0 (Ix := Unit) (Name := ℕ) (U := UU) (Lvl := ℕ) (Val := Elt F) (τ := τ) osem c : sProp 𝕄)
    = iprop(rest (F := F) c xS ∗ rest (F := F) c lS ∗ rest (F := F) c w0S ∗ rest (F := F) c w1S ∗ rest (F := F) c w2S ∗ rest (F := F) c oS
      ∗ semVal (sendCell c) 0 ∗ semVal (recvCell c) 0 ∗ rest (F := F) c cc0_scratch10.sem ∗ rest (F := F) c cc0_scratch11.sem) := by
  rw [Pipeline.ownSems0_eq_of_list c osem [0, 1, 2, 3, 4, 5, 6, 7, 8, 9] (by decide) (by decide)]; rfl

theorem unscopedSems_eq (c : Dev nD) : (unscopedSems0 c : sProp 𝕄) = semVal (barCell c) 0 := by
  unfold unscopedSems0; rw [bigSep_eq_bigSepL_of_eq [SemLoc.reg barS] (by decide) (by decide)]; rfl

theorem over_kinds (Φ : Fin 3 → sProp 𝕄) : bigSep Finset.univ Φ = iprop(Φ 0 ∗ Φ 1 ∗ Φ 2) := bigSep_univ_eq_bigSepL [0, 1, 2] (by decide) (by decide) Φ

/-! ## What the launch element holds -/

theorem kcell_inj : Function.Injective (kcell : Dev nD × Fin 3 → GSem nD τ sig) := by
  rintro ⟨c, k⟩ ⟨c', k'⟩ h
  obtain rfl : c = c' := congrArg (fun g : GSem nD τ sig => g.1.1) h
  have h2 : csem k = csem k' := congrArg Prod.snd h
  have h3 : k = k' := by fin_cases k <;> fin_cases k' <;> first | rfl | exact absurd h2 (by decide)
  rw [h3]

def meshCells : Finset (GSem nD τ sig) := Finset.univ.map ⟨kcell, kcell_inj⟩

/-- A token per device, kind of cell and distance. -/
abbrev tokOf (x : (Dev nD × Fin 3) × Fin 15) : GSem nD τ sig × ℕ × Fin 15 := (kcell x.1, 0, x.2)
theorem tokOf_inj : Function.Injective tokOf := by
  rintro ⟨a, j⟩ ⟨a', j'⟩ h
  have h1 := kcell_inj (congrArg Prod.fst h)
  have h2 : j = j' := congrArg (fun y : GSem nD τ sig × ℕ × Fin 15 => y.2.2) h
  exact Prod.ext h1 h2
def meshToks : Finset (GSem nD τ sig × ℕ × Fin 15) := Finset.univ.map ⟨tokOf, tokOf_inj⟩

def u₀ : UU := (initOf (Pipeline.cells cfgs cellOf_inj) (Pipeline.launchToks cfgs cellOf_inj), (initOf meshCells meshToks, 1))

theorem u₀_parts : (ownU (u₀ : UU) : sProp 𝕄)
    ⊢ iprop(BI.own (EP (initOf (Pipeline.cells cfgs cellOf_inj) (Pipeline.launchToks cfgs cellOf_inj))) ∗ BI.own (ER (initOf meshCells meshToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf meshCells meshToks, (1 : Counters)))))

/-- The tokens of device `c`'s own cells. -/
def minted (c : Dev nD) : sProp 𝕄 :=
  bigSep Finset.univ fun k : Fin 3 => bigSep Finset.univ fun j : Fin 15 => dutyTok ER (kcell (c, k)) 0 j

/-- What the launch element gives device `c`. -/
def given (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ minted (F := F) c)

theorem over_cells (Φ : GSem nD τ sig → sProp 𝕄) :
    bigSep meshCells Φ = bigSep Finset.univ fun c : Dev nD => bigSep Finset.univ fun k : Fin 3 => Φ (kcell (c, k)) := by
  unfold meshCells; rw [bigSep_map, bigSep_univ_prod]; rfl

theorem over_toks : (bigSep meshToks fun x => (dutyTok ER x.1 x.2.1 x.2.2 : sProp 𝕄)) = bigSep Finset.univ fun c : Dev nD => minted (F := F) c := by
  unfold meshToks minted; rw [bigSep_map, bigSep_univ_prod, bigSep_univ_prod]; rfl

theorem fund_mesh : BI.own (ER (initOf meshCells meshToks)) ⊢ (|==> bigSep Finset.univ (given m) : sProp 𝕄) := by
  iintro H
  imod (Rounds.fund ER (sched m) meshCells meshToks) $$ H with ⟨Hs, Hr, Ha, Ht⟩
  imodintro
  ihave Hs := (Entails.of_eq (over_cells (F := F) fun g => roundState ER (sched m) g 0)) $$ Hs
  ihave Ha := (Entails.of_eq (over_cells (F := F) fun g => atPos ER g 0 ∅ 0)) $$ Ha
  ihave Hr := (Entails.of_eq (over_cells (F := F) fun g => reached ER g 0)) $$ Hr
  ihave Ht := (Entails.of_eq (over_toks (F := F))) $$ Ht
  unfold given; simp only [bigSep_sep']
  isplitl [Hs]; · iexact Hs
  isplitr [Ht]
  · isplitl [Ha] <;> iassumption
  iexact Ht

/-! ## The cells' invariants made, everything dealt out -/

/-- What each device starts from: the shared records, its places and tokens, and the semaphores that are its own. -/
def dealt (c : Dev nD) : sProp 𝕄 := iprop((∃ K, records m K ∗ tokens (F := F) c) ∗ localSems (F := F) c ∗ idleSems (F := F) c)

theorem alloc_one (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted (F := F) c
          ∗ localSems (F := F) c ∗ idleSems (F := F) c) := by
  have hk : (bigSep Finset.univ fun k : Fin 3 => (semVal (kcell (c, k)) 0 : sProp 𝕄))
      = iprop(semVal (barCell c) 0 ∗ semVal (sendCell c) 0 ∗ semVal (recvCell c) 0) := over_kinds (F := F) _
  unfold given localSems idleSems
  rw [ownSems_eq, unscopedSems_eq]
  iintro ⟨⟨Zx, Zl, Z0, Z1, Z2, Zo, ZS, ZV, Zi, Zj⟩, ZB, Hst, Hat, Htok⟩
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [ZB ZS ZV Hst] with Hinv
  · isplitr [Hst]
    · iapply (Entails.of_eq hk.symm)
      isplitl [ZB]; · iexact ZB
      isplitl [ZS] <;> iassumption
    iexact Hst
  imodintro
  isplitl [Hinv]; · iexact Hinv
  isplitl [Hat]; · iexact Hat
  isplitl [Htok]; · iexact Htok
  isplitr [Zi Zj]
  · isplitl [Zx]; · iexact Zx
    isplitl [Zl]; · iexact Zl
    isplitl [Z0]; · iexact Z0
    isplitl [Z1]; · iexact Z1
    isplitl [Z2] <;> iassumption
  isplitl [Zi] <;> iassumption

/-- Every pair of a device and a distance, moved to the device that distance ahead. -/
def turns : Dev nD × Fin 15 ≃ Dev nD × Fin 15 :=
  ⟨fun x => (ahead x.1 x.2, x.2), fun x => (behind x.1 x.2, x.2), fun x => Prod.ext (behind_ahead x.1 x.2) rfl, fun x => Prod.ext (ahead_behind x.1 x.2) rfl⟩

/-- Something per device and distance, dealt to the device the distance behind. -/
theorem deal (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (ahead c j) j := by
  rw [← bigSep_univ_prod (fun x : Dev nD × Fin 15 => Φ x.1 x.2), ← bigSep_univ_prod (fun x : Dev nD × Fin 15 => Φ (ahead x.1 x.2) x.2)]
  exact bigSep_univ_equiv turns fun x : Dev nD × Fin 15 => Φ x.1 x.2

/-- The minted tokens, with the devices that will spend them. -/
theorem tokens_dealt :
    (bigSep Finset.univ fun c : Dev nD => minted (F := F) c)
      ⊢ iprop((bigSep Finset.univ fun c : Dev nD => bigSep Finset.univ fun j : Fin 15 => (dutyTok ER (barCell (ahead c j)) 0 j : sProp 𝕄))
        ∗ (bigSep Finset.univ fun c : Dev nD => bigSep Finset.univ fun j : Fin 15 => (dutyTok ER (sendCell c) 0 j : sProp 𝕄))
        ∗ (bigSep Finset.univ fun c : Dev nD => bigSep Finset.univ fun j : Fin 15 => (dutyTok ER (recvCell (ahead c j)) 0 j : sProp 𝕄))) := by
  unfold minted
  rw [bigSep_congr (s := Finset.univ) fun (c : Dev nD) _ => over_kinds (F := F) fun k => bigSep Finset.univ fun j : Fin 15 => dutyTok ER (kcell (c, k)) 0 j,
    bigSep_sep', bigSep_sep', ← deal (F := F) fun c j => dutyTok ER (barCell c) 0 j, ← deal (F := F) fun c j => dutyTok ER (recvCell c) 0 j]

theorem share_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The places and tokens of one device that the mesh deals out, with its own semaphores. -/
def hand (c : Dev nD) : sProp 𝕄 :=
  iprop((bigSep Finset.univ fun k : Fin 3 => (atPos ER (kcell (c, k)) 0 ∅ 0 : sProp 𝕄))
    ∗ ((bigSep Finset.univ fun j : Fin 15 => (dutyTok ER (barCell (ahead c j)) 0 j : sProp 𝕄)) ∗ (bigSep Finset.univ fun j : Fin 15 => (dutyTok ER (sendCell c) 0 j : sProp 𝕄))
      ∗ (bigSep Finset.univ fun j : Fin 15 => (dutyTok ER (recvCell (ahead c j)) 0 j : sProp 𝕄))) ∗ localSems (F := F) c ∗ idleSems (F := F) c)

theorem hands :
    iprop((bigSep Finset.univ fun c : Dev nD => bigSep Finset.univ fun k : Fin 3 => (atPos ER (kcell (c, k)) 0 ∅ 0 : sProp 𝕄))
      ∗ ((bigSep Finset.univ fun c : Dev nD => bigSep Finset.univ fun j : Fin 15 => (dutyTok ER (barCell (ahead c j)) 0 j : sProp 𝕄))
        ∗ (bigSep Finset.univ fun c : Dev nD => bigSep Finset.univ fun j : Fin 15 => (dutyTok ER (sendCell c) 0 j : sProp 𝕄))
        ∗ (bigSep Finset.univ fun c : Dev nD => bigSep Finset.univ fun j : Fin 15 => (dutyTok ER (recvCell (ahead c j)) 0 j : sProp 𝕄)))
      ∗ (bigSep Finset.univ fun c : Dev nD => localSems (F := F) c) ∗ (bigSep Finset.univ fun c : Dev nD => idleSems (F := F) c))
      ⊢ bigSep Finset.univ (hand (F := F)) := by
  unfold hand; rw [bigSep_sep', bigSep_sep', bigSep_sep', bigSep_sep', bigSep_sep']

theorem hand_intro (K : Dev nD × Fin 3 → ℕ) (c : Dev nD) : iprop(records m K ∗ hand (F := F) c) ⊢ dealt m c := by
  unfold hand dealt tokens; rw [over_kinds (F := F)]
  iintro ⟨#HR, Ha, Ht, Hz⟩
  isplitr [Hz]
  · iexists K
    isplitr; · iexact HR
    isplitl [Ha] <;> iassumption
  iexact Hz

theorem deal_all :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ minted (F := F) c
          ∗ localSems (F := F) c ∗ idleSems (F := F) c) : sProp 𝕄)
      ⊢ bigSep Finset.univ (dealt m) := by
  rw [bigSep_sep', bigSep_sep', bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hz⟩
  ihave HK := (BI.bigSep_exists_pi Finset.univ (fun (ck : Dev nD × Fin 3) (κ : ℕ) => (cellInv ER (sched m) κ (kcell ck) : sProp 𝕄))) $$ HI
  icases HK with ⟨%K, #HI⟩
  ihave Htok := (tokens_dealt (F := F)) $$ Htok
  iapply (share_records (F := F) (R := records m K) fun c _ => hand_intro m K c)
  isplitr
  · unfold records; isplitl; · iexact HI
    iexact HR
  · iapply (hands (F := F))
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ given m c) : sProp 𝕄)
    ⊢ |={Set.univ}=> bigSep Finset.univ (dealt m) :=
  ((bigSep_mono fun c _ => alloc_one m c).trans (bigSep_fupd _ _)).trans (BI.fupd_mono (deal_all m))

/-! ## The launch credit -/

theorem bar_iff {a b : Dev nD} : barCell a = barCell b ↔ a = b := ⟨fun h => congrArg (fun g : GSem nD τ sig => g.1.1) h, fun h => h ▸ rfl⟩
theorem recv_iff {a b : Dev nD} : recvCell a = recvCell b ↔ a = b := ⟨fun h => congrArg (fun g : GSem nD τ sig => g.1.1) h, fun h => h ▸ rfl⟩
theorem ahead_iff {c d : Dev nD} {j : Fin 15} : c = ahead d j ↔ d = behind c j :=
  ⟨fun h => by rw [h, behind_ahead], fun h => by rw [h, ahead_behind]⟩

theorem owed_bar (d c : Dev nD) : O₀ d (barCell c) () = ∑ j : Fin 15, if d = behind c j then 1 else 0 := by
  unfold O₀
  rw [Pi.add_apply, Finsupp.add_apply, owSend_apply, owSig_apply, Finset.sum_eq_zero fun j _ => if_neg fun h => recv_ne_bar (congrArg Prod.snd h).symm, Nat.zero_add,
    Finset.filter_true_of_mem fun j _ => Nat.zero_le _]
  exact Finset.sum_congr rfl fun j _ => if_congr (bar_iff.trans ahead_iff) rfl rfl

theorem owed_recv (d c : Dev nD) : O₀ d (recvCell c) () = ∑ j : Fin 15, if d = behind c j then N else 0 := by
  unfold O₀
  rw [Pi.add_apply, Finsupp.add_apply, owSend_apply, owSig_apply,
    Finset.sum_eq_zero (s := Finset.univ.filter fun j : Fin 15 => 0 ≤ j.val) fun j _ => if_neg fun h => recv_ne_bar (congrArg Prod.snd h), Nat.add_zero,
    Finset.filter_true_of_mem fun j _ => j.isLt]
  exact Finset.sum_congr rfl fun j _ => if_congr (recv_iff.trans ahead_iff) rfl rfl

theorem owed_total (c : Dev nD) (a : ℕ) : (∑ d : Dev nD, ∑ j : Fin 15, if d = behind c j then a else 0) = 15 * a := by
  rw [Finset.sum_comm, Finset.sum_congr rfl fun j _ => (Finset.sum_ite_eq' Finset.univ (behind c j) fun _ => a).trans (if_pos (Finset.mem_univ _)),
    Finset.sum_const, Finset.card_univ, Fintype.card_fin, smul_eq_mul]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, owed_total]

theorem launch_recv (c : Dev nD) :
    tallyOn (recvCell c) (launchCredit (Pipeline.owing O₀) 0 (recvCell c)) = (tallyAt (recvCell c) () (15 * N) : CellTallies nD τ sig Unit) := by
  unfold tallyAt; refine congrArg _ (Finsupp.ext fun u => ?_); cases u
  rw [Pipeline.launchCredit_owing, Finsupp.single_eq_same, Finset.sum_congr rfl fun d _ => owed_recv d c, owed_total]

theorem creds (c : Dev nD) :
    (Pipeline.launchCred O₀ c : sProp 𝕄) ⊢ iprop(cred (tallyAt (barCell c) () 15) ∗ cred (tallyAt (recvCell c) () (15 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The region's proof data -/

/-- What a device holds when the kernel starts, its scratch buffers apart. -/
def start (c : Dev nD) : sProp 𝕄 :=
  iprop(dealt m c ∗ levAts L lv ∗ cred (tallyAt (barCell c) () 15) ∗ cred (tallyAt (recvCell c) () (15 * N)) ∗ outer m c (m ((c : Thread nD τ).loc main_v1)))
/-- What it holds when the kernel has returned. -/
def finish (c : Dev nD) : sProp 𝕄 :=
  iprop((semVal (barCell c) 0 ∗ semVal (sendCell c) 0 ∗ semVal (recvCell c) 0) ∗ localSems (F := F) c ∗ idleSems (F := F) c ∗ outer m c (outOf m c) ∗ scratch (F := F) c)

def dats (_ : Fin 1) (c : Dev nD) : Dat τ (Elt F) Unit ℕ UU ℕ cfg0 c where
  A w := Fin.elim0 w
  after w _ := Fin.elim0 w
  Φ t := match t with
    | ⟨0, _⟩ => iprop(start m c ∗ scratch (F := F) c)
    | ⟨_ + 1, _⟩ => finish m c
  q _ := fullShare
  owed t := match t with
    | ⟨0, _⟩ => O₀ c
    | ⟨_ + 1, _⟩ => 0

theorem no_windows (Φ : Fin cfg0.W → sProp 𝕄) : bigSep Finset.univ Φ = iprop(emp) := by
  rw [show (Finset.univ : Finset (Fin cfg0.W)) = ∅ from rfl, bigSep_empty]; rfl

set_option maxRecDepth 16000 in
/-- The body runs from what the region starts with to what it ends with. -/
theorem body_obligation (c : Dev nD) : BodyObligation (dats (F := F) m 0 c) (defs₀ (F := F)) 𝒱₀ () Set.univ := fun t => by
  rw [fin_N0 t, no_windows, no_windows]
  show iprop((start m c ∗ scratch (F := F) c) ∗ (dats (F := F) m 0 c).owesAt () t0_0.castSucc ∗ emp)
    ⊢ runs c (bodyAt0 (F := F) t0_0) fun _ => iprop(finish m c ∗ (dats (F := F) m 0 c).owesAt () t0_0.succ ∗ emp)
  unfold start dealt Dat.owesAt Pipeline.owesWithin
  rw [show (dats (F := F) m 0 c).owed t0_0.castSucc = O₀ c from rfl, show (dats (F := F) m 0 c).owed t0_0.succ = 0 from rfl]
  iintro ⟨⟨⟨⟨⟨%K, HR, Ht⟩, Hz, Hi⟩, HL, HcB, HcV, Ho⟩, Hs⟩, ⟨%W, %hW, HO⟩, -⟩
  iapply (sound_body m K c _)
  isplitl [HR Ht Hz HL HcB HcV Ho Hs HO]
  · unfold bodyPre owesE
    isplitl [HR]; · iexact HR
    isplitl [HL]; · iexact HL
    isplitl [HO]; · iexists W; iexact HO
    isplitl [Ht]; · iexact Ht
    isplitl [HcB]; · iexact HcB
    isplitl [HcV]; · iexact HcV
    isplitl [Hz]; · iexact Hz
    isplitl [Ho] <;> iassumption
  · unfold bodyPost owesE finish
    iintro ⟨⟨%W', HO⟩, Hb, Hz, Ho, Hs⟩
    isplitr [HO]
    · isplitl [Hb]; · iexact Hb
      isplitl [Hz]; · iexact Hz
      isplitl [Hi]; · iexact Hi
      isplitl [Ho] <;> iassumption
    isplitl [HO]
    · iexists W'
      isplitr; · ipureintro; exact fun _ _ => Or.inl trivial
      iexact HO
    iempintro

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  iintro ⟨Ho, HL, Hc, -, HD⟩
  ihave Hc := (creds (F := F) c) $$ Hc
  icases Hc with ⟨HB, HV⟩
  imodintro
  unfold start outer
  isplitl
  · isplitl [HD]; · iexact HD
    isplitl [HL]; · iexact HL
    isplitl [HB]; · iexact HB
    isplitl [HV] <;> iassumption
  · iempintro

theorem region_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scopedRest0_eq]
  unfold scratch
  iintro ⟨Hs, -, Hr⟩
  isplitl [Hs] <;> iassumption

theorem region_out (c : Dev nD) :
    (dats m 0 c).Φ (Fin.last cfg0.N) ⊢ iprop((outer m c (outOf m c) ∗ unscopedSems0 c) ∗ Pipeline.ownSems0 osem c ∗ Pipeline.scopedRest cfg0.spec c) := by
  rw [show (dats m 0 c).Φ (Fin.last cfg0.N) = finish m c from rfl, scopedRest0_eq, ownSems_eq, unscopedSems_eq]
  unfold finish localSems idleSems scratch
  iintro ⟨⟨ZB, ZS, ZV⟩, ⟨Zx, Zl, Z0, Z1, Z2, Zo⟩, ⟨Zi, Zj⟩, Ho, Hs⟩
  isplitl [Ho ZB]
  · isplitl [Ho] <;> iassumption
  isplitr [Hs]
  · isplitl [Zx]; · iexact Zx
    isplitl [Zl]; · iexact Zl
    isplitl [Z0]; · iexact Z0
    isplitl [Z1]; · iexact Z1
    isplitl [Z2]; · iexact Z2
    isplitl [Zo]; · iexact Zo
    isplitl [ZS]; · iexact ZS
    isplitl [ZV]; · iexact ZV
    isplitl [Zi] <;> iassumption
  iexact Hs

theorem window_waits (c : Dev nD) : (levAts L lv : sProp 𝕄) ⊢ Pipeline.cellsWaits cfgs (dats m) () 0 c :=
  Pipeline.cellsWaits_intro cfgs (dats m) () 0 c fun w => Fin.elim0 w

/-- What a device's memory holds at the end. -/
def holds (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_v1) = outOf m c

theorem read_one (c : Dev nD) (b : Ref sig .tc) (f : b.ty.Contents (Elt F)) (s' : Phys nD τ sig (Elt F)) :
    iprop(wholePts (F := F) c b f ∗ SI s') ⊢ iprop(⌜s'.mem.mem ((c : Thread nD τ).loc b) = f⌝ ∗ SI s') := by
  iintro ⟨H, HSI⟩
  icombine HSI H gives %h
  isplitr
  · ipureintro; exact Buf.eq_of_forall_mem_univ h
  iexact HSI

theorem outer_read (c : Dev nD) (s' : Phys nD τ sig (Elt F)) :
    iprop(outer m c (outOf m c) ∗ SI s') ⊢ iprop(⌜holds m c s'.mem⌝ ∗ SI s') := by
  unfold outer holds
  iintro ⟨⟨H0, H1, H2, H3⟩, HSI⟩
  ihave H := (read_one (F := F) c main_arg0 _ s') $$ [H0 HSI]
  · isplitl [H0] <;> iassumption
  icases H with ⟨%h0, HSI⟩
  ihave H := (read_one (F := F) c main_arg1 _ s') $$ [H1 HSI]
  · isplitl [H1] <;> iassumption
  icases H with ⟨%h1, HSI⟩
  ihave H := (read_one (F := F) c main_arg2 _ s') $$ [H2 HSI]
  · isplitl [H2] <;> iassumption
  icases H with ⟨%h2, HSI⟩
  ihave H := (read_one (F := F) c main_v1 _ s') $$ [H3 HSI]
  · isplitl [H3] <;> iassumption
  icases H with ⟨%h3, HSI⟩
  isplitr
  · ipureintro; exact ⟨h0, h1, h2, h3⟩
  iexact HSI

set_option maxRecDepth 8000 in
/-- From any memory with zero counters, at any float values: every weakly fair execution of the mesh terminates, and
    every final state has each device's arguments unchanged, its result as named and every semaphore at zero. -/
theorem run_main : θ_run defs (onTc (τ := τ) (main (F := F))) ⟨m, fun _ => 0, ρ⟩ (fun r => (∀ c : Dev nD, holds m c r.2) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => Fin.elim0 w) (harr := arr_whole0) (hstage := stage_whole0) (hshare := fun _ w => Fin.elim0 w)
    (hdistinct := winFacts0.arr_inj)
    (O₀ := O₀) (howed₀ := fun _ => rfl) (howedN := fun _ => rfl)
    (L := L) (lv := lv) (hL := L_of_ne) (hwaits := window_waits m)
    (G := given m) (G' := dealt m) (u₀ := u₀)
    (hu₀ := by
      iintro Hu
      ihave H := (u₀_parts (F := F)) $$ Hu
      icases H with ⟨HP, HX⟩
      imod (fund_mesh m) $$ HX with HG
      imodintro
      isplitl [HP] <;> iassumption)
    (hglob := glob m)
    (hA := fun _ w => Fin.elim0 w) (hpf := fun _ k => k.elim0)
    (X := start m) (Y := fun c => iprop(outer m c (outOf m c) ∗ unscopedSems0 c)) (Z := fun _ => iprop(emp))
    (hX := start_intro m ρ) (hin := region_in m) (hout := region_out m)
    (QY := fun c s => holds m c s ∧ ∀ sm : SemLoc sig, sm.isScoped .tc = false → s.sem ((c.tc : Thread nD τ), sm) = 0)
    (hY := fun c s' => by
      iintro ⟨⟨Ho, Hu⟩, -, HSI⟩
      ihave H := (outer_read m c s') $$ [Ho HSI]
      · isplitl [Ho] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr
      · ipureintro; exact ⟨h, h'⟩
      iexact HSI)
    (hQ := fun _ h hs => ⟨fun c => (h c).2.2.1, sem_eq_zero hs fun c => (h c).2.2.2⟩)

end Cert.Own

end
-- ==== Proof.LogSum.lean ====
/-
Sums of exponentials over the extended reals, taken relative to a maximum: a block's sum, taken relative to the block's
own bound and rescaled, is the block's sum relative to any greater bound; sums and maxima over consecutive ranges.
-/
module

public import Idealize.ShloMosaic.PureOps.Ideal

@[expose] public section

noncomputable section

namespace Cert.Own

open Idealize.ShloMosaic

/-- An exponential is not negative. -/
theorem exp_nonneg (x : EReal) : 0 ≤ Ideal.exp x := by
  induction x with
  | bot => exact le_refl (0 : EReal)
  | top => exact le_top
  | coe r => exact EReal.coe_nonneg.mpr (Real.exp_pos r).le

/-- One term: taken relative to `M` and rescaled to `M'`, it is the term relative to `M'`. -/
theorem exp_rescale {l M M' : EReal} (h : l ≤ M) (h' : M ≤ M') :
    Ideal.exp (l - M) * Ideal.exp (M - M') = Ideal.exp (l - M') := by
  have e0 : Ideal.exp ⊥ = 0 := rfl
  induction M with
  | bot =>
    rw [le_bot_iff.mp h, EReal.bot_sub, EReal.bot_sub, e0, zero_mul]
  | top =>
    rw [top_le_iff.mp h', EReal.sub_top, e0, zero_mul]
  | coe r =>
    induction M' with
    | bot => exact absurd h' (by simp)
    | top => rw [EReal.sub_top, EReal.sub_top, e0, mul_zero]
    | coe r' =>
      induction l with
      | bot => rw [EReal.bot_sub, EReal.bot_sub, e0, zero_mul]
      | top => exact absurd h (by simp)
      | coe x =>
        rw [← EReal.coe_sub, ← EReal.coe_sub, ← EReal.coe_sub]
        show ((Real.exp (x - r) : ℝ) : EReal) * ((Real.exp (r - r') : ℝ) : EReal) = ((Real.exp (x - r') : ℝ) : EReal)
        rw [← EReal.coe_mul, ← Real.exp_add, sub_add_sub_cancel]

/-- A product with a sum of terms that are not negative is the sum of the products. -/
theorem sum_mul_of_nonneg {ι : Type*} (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, EReal.right_distrib_of_nonneg (hf i) (Finset.sum_nonneg fun j _ => hf j), ih]

/-- The sum of exponentials over `[a, b)` relative to `M`. -/
def mass (L : ℕ → EReal) (a b : ℕ) (M : EReal) : EReal := ∑ j ∈ Finset.Ico a b, Ideal.exp (L j - M)

/-- The maximum over `[a, b)`. -/
def top (L : ℕ → EReal) (a b : ℕ) : EReal := (Finset.Ico a b).sup L

/-- The value at `t` if `t` lies in `[a, b)`, else 0, as a sum. -/
def pick (L : ℕ → EReal) (t a b : ℕ) : EReal := ∑ j ∈ Finset.Ico a b, if j = t then L j else 0

/-- A range's mass relative to its own maximum, rescaled, is its mass relative to any bound of that maximum. -/
theorem mass_rescale (L : ℕ → EReal) (a b : ℕ) {M' : EReal} (h : top L a b ≤ M') :
    mass L a b (top L a b) * Ideal.exp (top L a b - M') = mass L a b M' := by
  unfold mass
  rw [sum_mul_of_nonneg _ _ (fun _ => exp_nonneg _)]
  exact Finset.sum_congr rfl fun j hj => exp_rescale (Finset.le_sup hj) h

theorem top_append (L : ℕ → EReal) {a b c : ℕ} (h : a ≤ b) (h' : b ≤ c) : max (top L a b) (top L b c) = top L a c := by
  unfold top
  rw [← Finset.Ico_union_Ico_eq_Ico h h', Finset.sup_union]

theorem mass_append (L : ℕ → EReal) {a b c : ℕ} (h : a ≤ b) (h' : b ≤ c) (M : EReal) :
    mass L a b M + mass L b c M = mass L a c M := Finset.sum_Ico_consecutive _ h h'

theorem pick_append (L : ℕ → EReal) (t : ℕ) {a b c : ℕ} (h : a ≤ b) (h' : b ≤ c) :
    pick L t a b + pick L t b c = pick L t a c := Finset.sum_Ico_consecutive _ h h'

/-- A range that holds `t` picks the value at `t`. -/
theorem pick_of_mem (L : ℕ → EReal) {t a b : ℕ} (h : a ≤ t) (h' : t < b) : pick L t a b = L t := by
  unfold pick
  rw [Finset.sum_ite_eq' (Finset.Ico a b) t L, if_pos (Finset.mem_Ico.mpr ⟨h, h'⟩)]

/-- Sums over equal consecutive blocks are one sum. -/
theorem sum_blocks (f : ℕ → EReal) (w n : ℕ) :
    ∑ c : Fin n, ∑ j ∈ Finset.Ico (c.val * w) ((c.val + 1) * w), f j = ∑ j ∈ Finset.Ico 0 (n * w), f j := by
  rw [Fin.sum_univ_eq_sum_range (fun c => ∑ j ∈ Finset.Ico (c * w) ((c + 1) * w), f j) n]
  induction n with
  | zero => simp
  | succ n ih =>
    rw [Finset.sum_range_succ, ih]
    exact Finset.sum_Ico_consecutive _ (Nat.zero_le _) (Nat.mul_le_mul_right _ (Nat.le_succ _))

/-- Maxima over equal consecutive blocks have as maximum the one over them all. -/
theorem top_blocks (L : ℕ → EReal) (w n : ℕ) :
    (Finset.univ.sup fun c : Fin n => top L (c.val * w) ((c.val + 1) * w)) = top L 0 (n * w) := by
  apply le_antisymm
  · refine Finset.sup_le fun c _ => Finset.sup_mono fun j hj => ?_
    have := Finset.mem_Ico.mp hj
    exact Finset.mem_Ico.mpr ⟨Nat.zero_le _, this.2.trans_le (Nat.mul_le_mul_right _ c.isLt)⟩
  · refine Finset.sup_le fun j hj => ?_
    have hj' := (Finset.mem_Ico.mp hj).2
    have hw : 0 < w := Nat.pos_of_ne_zero fun e => by subst e; simp at hj'
    have hq : j / w < n := Nat.div_lt_of_lt_mul (by rwa [mul_comm])
    have hin : j ∈ Finset.Ico (j / w * w) ((j / w + 1) * w) :=
      Finset.mem_Ico.mpr ⟨Nat.div_mul_le_self j w, by rw [mul_comm]; exact Nat.lt_mul_div_succ j hw⟩
    exact (Finset.le_sup (f := L) hin).trans
      (Finset.le_sup (f := fun c : Fin n => top L (c.val * w) ((c.val + 1) * w)) (Finset.mem_univ (⟨j / w, hq⟩ : Fin n)))

/-- A sum along an axis of `n` places from `o` on is the sum over `[o, o + n)`. -/
theorem sum_axis (f : ℕ → EReal) (o n : ℕ) : ∑ k : Fin n, f (o + k.val) = ∑ j ∈ Finset.Ico o (o + n), f j := by
  rw [Finset.sum_Ico_eq_sum_range, Nat.add_sub_cancel_left, Fin.sum_univ_eq_sum_range (fun k => f (o + k)) n]

/-- A maximum along an axis of `n` places from `o` on is the maximum over `[o, o + n)`. -/
theorem max_axis (L : ℕ → EReal) (o n : ℕ) : (Finset.univ.fold max ⊥ fun k : Fin n => L (o + k.val)) = top L o (o + n) := by
  show (Finset.univ.sup fun k : Fin n => L (o + k.val)) = top L o (o + n)
  apply le_antisymm
  · exact Finset.sup_le fun k _ => Finset.le_sup (f := L) (Finset.mem_Ico.mpr ⟨Nat.le_add_right _ _, Nat.add_lt_add_left k.isLt _⟩)
  · refine Finset.sup_le fun j hj => ?_
    have hj' := Finset.mem_Ico.mp hj
    have := Finset.le_sup (f := fun k : Fin n => L (o + k.val)) (Finset.mem_univ (⟨j - o, by omega⟩ : Fin n))
    rwa [show o + (⟨j - o, by omega⟩ : Fin n).val = j from Nat.add_sub_cancel' hj'.1] at this

end Cert.Own

end
-- ==== Proof.Stats.lean ====
/-
What a device's three statistics are over the extended reals: of each row of logits, cut into three chunks of columns,
the maximum, the sum of exponentials relative to it, and the label's logit if the label is one of the device's columns.
-/
module

public import proofs.«01_k».proof.Proof.LogSum
public import proofs.«01_k».proof.Proof.Contents
public import Idealize.ShloMosaic.Lib.Pointwise

@[expose] public section

noncomputable section

namespace Cert.Own

open Cert.KernelIdeal Cert.KernelIdeal.Gen
open Idealize.ShloMosaic

/-! ## Words -/

theorem bot_bf16 : Ideal.ofBits FTy.bf16 0xFF80#16 = ⊥ := by simp [Ideal.ofBits, Ideal.ieee]
theorem bot_f32 : Ideal.ofBits FTy.f32 0xFF800000#32 = ⊥ := by simp [Ideal.ofBits, Ideal.ieee]

/-- The kernel's word for the device's place in the mesh is the device's number. -/
theorem place_eq : ∀ c : Dev nD, place c = BitVec.ofNat 32 c.val := by decide

/-- A column's place in its chunk is the label's word less the chunk's start just when the column is the label. -/
theorem word_match (w : BitVec 32) {o k : ℕ} (h : o + k < 65536) :
    BitVec.ofNat 32 k = w - BitVec.ofNat 32 o ↔ o + k = w.toNat := by
  have hw := w.isLt
  rw [← BitVec.toNat_inj, BitVec.toNat_sub, BitVec.toNat_ofNat, BitVec.toNat_ofNat]
  omega

theorem select_eq (a b : BitVec 32) (p q : EReal) : Scalar.select (IntOp.cmpi .eq a b) p q = if a = b then p else q := by
  show (if BitVec.ofBool (a == b) = 1#1 then p else q) = _
  by_cases h : a = b
  · subst h; simp
  · rw [if_neg h, show (a == b) = false from beq_false_of_ne h]; rfl

/-- The kernel's masked sum along a chunk picks the label's logit if the label is one of the chunk's columns. -/
theorem pick_axis (L : ℕ → EReal) {o n : ℕ} (h : o + n ≤ 65536) (w l : BitVec 32) (hl : l = w - BitVec.ofNat 32 o) :
    ∑ k : Fin n, Scalar.select (IntOp.cmpi .eq (BitVec.ofNat 32 k.val) l) (L (o + k.val)) 0 = pick L w.toNat o (o + n) := by
  unfold pick
  rw [← sum_axis (fun j => if j = w.toNat then L j else 0) o n]
  refine Finset.sum_congr rfl fun k _ => ?_
  have hk : o + k.val < 65536 := by have := k.isLt; omega
  rw [select_eq, hl]
  simp only [word_match w hk]

theorem mass_axis (L : ℕ → EReal) (o n : ℕ) (M : EReal) :
    ∑ k : Fin n, Ideal.exp (L (o + k.val) - M) = mass L o (o + n) M := sum_axis (fun j => Ideal.exp (L j - M)) o n

theorem fold_three (f : Fin 3 → EReal) : Finset.fold max ⊥ f Finset.univ = max (max (f 0) (f 1)) (f 2) := by
  show Finset.univ.sup f = _
  simp [Fin.univ_succ, sup_assoc]

/-! ## The columns of a chunk -/

/-- The columns of a chunk are the block's columns from the chunk's start on. -/
theorem chunk_at {o n : ℕ} (hR : ∀ a, (![0, o] : Fin 2 → ℕ) a + (![512, n] : Fin 2 → ℕ) a ≤ S512x4096.size a) (W : Vec Ideal S512x4096 .f32)
    (k : Fin 512) (j : Fin n) :
    chunk (Rect.unit (s := S512x4096) ![0, o] ![512, n] hR) W (ix2 k j) = W (ix2 k ⟨o + j.val, (Nat.add_lt_add_left j.isLt o).trans_le (hR 1)⟩) := by
  refine congrArg W (funext fun a => Fin.ext ?_)
  match a with
  | ⟨0, _⟩ => show 0 + 1 * k.val = k.val; omega
  | ⟨1, _⟩ => show o + 1 * j.val = o + j.val; omega

/-! ## One chunk's statistics -/

variable (L : ℕ → EReal) (o : ℕ) {e : ℕ} (r : Fin 256)

theorem max_first (he : o + 1024 = e) (x : Vec Ideal S256x512 .f32) (w : Vec Ideal S512x1024 .f32)
    (h : ∀ k : Fin 1024, ∑ q : Fin 512, x (ix2 r q) * w (ix2 q k) = L (o + k.val)) :
    k0_pay4 x w (ix1 r) = top L o e := by
  subst he
  pointwise [k0_pay4, k0_pay3, k0_pay1]
  simp only [h, bot_bf16, max_axis]

theorem sum_first (he : o + 1024 = e) (x : Vec Ideal S256x512 .f32) (w : Vec Ideal S512x1024 .f32)
    (h : ∀ k : Fin 1024, ∑ q : Fin 512, x (ix2 r q) * w (ix2 q k) = L (o + k.val)) :
    k0_pay5 x w (ix1 r) = mass L o e (top L o e) := by
  subst he
  pointwise [k0_pay5, k0_pay4, k0_pay3, k0_pay1]
  simp only [h, bot_bf16, max_axis, mass_axis]

theorem pick_first (he : o + 1024 = e) (x : Vec Ideal S256x512 .f32) (w : Vec Ideal S512x1024 .f32) (l : IVec S256 32) (t z : BitVec 32)
    (h : ∀ k : Fin 1024, ∑ q : Fin 512, x (ix2 r q) * w (ix2 q k) = L (o + k.val))
    (ho : e ≤ 65536) (hl : IntOp.subi (l (ix1 r)) z = t - BitVec.ofNat 32 o) :
    k0_pay6 l (k0_pay3 x w) z (ix1 r) = pick L t.toNat o e := by
  subst he
  pointwise [k0_pay6, k0_pay3, k0_pay1]
  simp only [h]
  exact pick_axis L ho t _ hl

theorem max_second (he : o + 1536 = e) (x : FVec Ideal S256x512 .bf16) (w : Vec Ideal S512x1536 .f32)
    (h : ∀ k : Fin 1536, ∑ q : Fin 512, x (ix2 r q) * w (ix2 q k) = L (o + k.val)) :
    k0_pay9 x w (ix1 r) = top L o e := by
  subst he
  pointwise [k0_pay9, k0_pay8]
  simp only [h, bot_bf16, max_axis]

theorem sum_second (he : o + 1536 = e) (x : FVec Ideal S256x512 .bf16) (w : Vec Ideal S512x1536 .f32)
    (h : ∀ k : Fin 1536, ∑ q : Fin 512, x (ix2 r q) * w (ix2 q k) = L (o + k.val)) :
    k0_pay10 x w (ix1 r) = mass L o e (top L o e) := by
  subst he
  pointwise [k0_pay10, k0_pay9, k0_pay8]
  simp only [h, bot_bf16, max_axis, mass_axis]

theorem pick_second (he : o + 1536 = e) (x : FVec Ideal S256x512 .bf16) (w : Vec Ideal S512x1536 .f32) (l : IVec S256 32) (t : BitVec 32)
    (h : ∀ k : Fin 1536, ∑ q : Fin 512, x (ix2 r q) * w (ix2 q k) = L (o + k.val))
    (ho : e ≤ 65536) (hl : IntOp.subi (l (ix1 r)) 1024#32 = t - BitVec.ofNat 32 o) :
    k0_pay11 x l w (ix1 r) = pick L t.toNat o e := by
  subst he
  pointwise [k0_pay11, k0_pay8]
  simp only [h]
  exact pick_axis L ho t _ hl

theorem widened_first (v : FVec Ideal S256 .bf16) : k0_pay7 v (ix1 r) = v (ix1 r) := by
  pointwise [k0_pay7]

theorem widened_second (x : FVec Ideal S256x512 .bf16) (w : Vec Ideal S512x1536 .f32) : k0_pay12 x w (ix1 r) = k0_pay9 x w (ix1 r) := by
  pointwise [k0_pay12]

/-! ## The third chunk, and the three joined -/

section Join

variable (x : FVec Ideal S256x512 .bf16) (l : IVec S256 32) (s₀ p₀ m₀ s₁ p₁ m₁ : FVec Ideal S256 .f32) (w : Vec Ideal S512x1536 .f32)
  (h : ∀ k : Fin 1536, ∑ q : Fin 512, x (ix2 r q) * w (ix2 q k) = L (o + k.val))

include h in
theorem max_join (he : o + 1536 = e) : k0_pay13 x l s₀ p₀ m₀ s₁ p₁ m₁ w (ix2 0 r) = max (max (m₀ (ix1 r)) (m₁ (ix1 r))) (top L o e) := by
  subst he
  pointwise [k0_pay13]
  simp only [h, bot_bf16, bot_f32, max_axis]
  rw [fold_three]; rfl

include h in
theorem sum_join (he : o + 1536 = e) {M : EReal} (hM : max (max (m₀ (ix1 r)) (m₁ (ix1 r))) (top L o e) = M) :
    k0_pay13 x l s₀ p₀ m₀ s₁ p₁ m₁ w (ix2 1 r) = s₀ (ix1 r) * Ideal.exp (m₀ (ix1 r) - M) + s₁ (ix1 r) * Ideal.exp (m₁ (ix1 r) - M)
      + mass L o e (top L o e) * Ideal.exp (top L o e - M) := by
  subst he
  subst hM
  pointwise [k0_pay13]
  simp only [h, bot_bf16, bot_f32, max_axis, mass_axis]
  rw [fold_three, Fin.sum_univ_three]; rfl

include h in
theorem pick_join (he : o + 1536 = e) {t : BitVec 32} (ho : e ≤ 65536) (hl : IntOp.subi (l (ix1 r)) 2560#32 = t - BitVec.ofNat 32 o) :
    k0_pay13 x l s₀ p₀ m₀ s₁ p₁ m₁ w (ix2 2 r) = p₀ (ix1 r) + p₁ (ix1 r) + pick L t.toNat o e := by
  subst he
  pointwise [k0_pay13]
  simp only [h]
  rw [Fin.sum_univ_three, ← pick_axis L ho t _ hl]; rfl

end Join

/-- Three consecutive ranges' masses, each relative to its own maximum, rescaled to the maximum of all. -/
theorem mass_three {a b c d : ℕ} (hab : a ≤ b) (hbc : b ≤ c) (hcd : c ≤ d) :
    mass L a b (top L a b) * Ideal.exp (top L a b - top L a d) + mass L b c (top L b c) * Ideal.exp (top L b c - top L a d)
      + mass L c d (top L c d) * Ideal.exp (top L c d - top L a d) = mass L a d (top L a d) := by
  have sub : ∀ {p q : ℕ}, a ≤ p → q ≤ d → top L p q ≤ top L a d := fun hp hq => Finset.sup_mono (Finset.Ico_subset_Ico hp hq)
  rw [mass_rescale L a b (sub le_rfl (hbc.trans hcd)), mass_rescale L b c (sub hab hcd),
    mass_rescale L c d (sub (hab.trans hbc) le_rfl), mass_append L hab hbc, mass_append L (hab.trans hbc) hcd]

/-! ## A device's statistics -/

variable (c : Dev nD) (x : Vec Ideal S256x512 .f32) (W : Vec Ideal S512x4096 .f32) (lab : Vec Ideal S256 .i32)

set_option maxRecDepth 16000 in
/-- The three statistics of row `r`, where `L` names the row's logits over all devices' columns. -/
theorem stats_at (h : ∀ j : Fin 4096, ∑ q : Fin 512, x (ix2 r q) * W (ix2 q j) = L (c.val * 4096 + j.val)) :
    stats c x W lab (ix2 0 r) = top L (c.val * 4096) ((c.val + 1) * 4096)
    ∧ stats c x W lab (ix2 1 r) = mass L (c.val * 4096) ((c.val + 1) * 4096) (top L (c.val * 4096) ((c.val + 1) * 4096))
    ∧ stats c x W lab (ix2 2 r) = pick L (lab (ix1 r)).toNat (c.val * 4096) ((c.val + 1) * 4096) := by
  have hc : c.val < 16 := c.isLt
  obtain ⟨o, ho⟩ : ∃ o, c.val * 4096 = o := ⟨_, rfl⟩
  simp only [ho] at h ⊢
  have hn : (c.val + 1) * 4096 = o + 4096 := by rw [Nat.add_mul, ho]
  rw [hn]
  have h0 : ∀ k : Fin 1024, ∑ q : Fin 512, x (ix2 r q) * chunk wR0 W (ix2 q k) = L (o + k.val) := fun k => by
    simp only [chunk_at _ W]; exact (h _).trans (congrArg (fun n => L (o + n)) (Nat.zero_add k.val))
  have h1 : ∀ k : Fin 1536, ∑ q : Fin 512, (k0_pay1 x : FVec Ideal S256x512 .bf16) (ix2 r q) * chunk wR1 W (ix2 q k) = L (o + 1024 + k.val) := fun k => by
    simp only [chunk_at _ W]; exact (h _).trans (congrArg L (Nat.add_assoc ..).symm)
  have h2 : ∀ k : Fin 1536, ∑ q : Fin 512, (k0_pay1 x : FVec Ideal S256x512 .bf16) (ix2 r q) * chunk wR2 W (ix2 q k) = L (o + 2560 + k.val) := fun k => by
    simp only [chunk_at _ W]; exact (h _).trans (congrArg L (Nat.add_assoc ..).symm)
  have hl : (k0_pay2 (place c) lab : IVec S256 32) (ix1 r) = lab (ix1 r) - BitVec.ofNat 32 o := by
    pointwise [k0_pay2]
    rw [place_eq, ← ho, BitVec.ofNat_mul]; rfl
  have hl' : ∀ n : ℕ, IntOp.subi ((k0_pay2 (place c) lab : IVec S256 32) (ix1 r)) (BitVec.ofNat 32 n) = lab (ix1 r) - BitVec.ofNat 32 (o + n) := fun n => by
    rw [hl, BitVec.ofNat_add]; show _ - _ - _ = _; rw [BitVec.sub_sub]
  have he0 : o + 1024 = o + 1024 := rfl
  have he1 : o + 1024 + 1536 = o + 2560 := by omega
  have he2 : o + 2560 + 1536 = o + 4096 := by omega
  have a4 := (widened_first r _).trans (max_first L o r he0 x _ h0)
  have a5 := sum_first L o r he0 x _ h0
  have a6 := pick_first L o r he0 x _ (k0_pay2 (place c) lab) (lab (ix1 r)) 0#32 h0 (by omega) (hl' 0)
  have a9 := (widened_second r _ _).trans (max_second L (o + 1024) r he1 _ _ h1)
  have a10 := sum_second L (o + 1024) r he1 _ _ h1
  have a11 := pick_second L (o + 1024) r he1 _ _ (k0_pay2 (place c) lab) (lab (ix1 r)) h1 (by omega) (hl' 1024)
  have hmax : max (max (top L o (o + 1024)) (top L (o + 1024) (o + 2560))) (top L (o + 2560) (o + 4096)) = top L o (o + 4096) := by
    rw [top_append L (by omega) (by omega)]; exact top_append L (by omega) (by omega)
  unfold stats
  have hM := hmax
  rw [← a4, ← a9] at hM
  refine ⟨(max_join L (o + 2560) r _ _ _ _ _ _ _ _ _ h2 he2).trans hM, ?_, ?_⟩
  · rw [sum_join L (o + 2560) r _ _ _ _ _ _ _ _ _ h2 he2 hM, a4, a9, a5, a10]
    exact mass_three L (by omega) (by omega) (by omega)
  · rw [pick_join L (o + 2560) r _ _ _ _ _ _ _ _ _ h2 he2 (by omega) (hl' 2560), a6, a11,
      pick_append L _ (by omega) (by omega)]
    exact pick_append L _ (by omega) (by omega)

end Cert.Own

end
-- ==== Proof.Combine.lean ====
/-
What every device computes from the finished table over the extended reals: the row's maximum, plus the logarithm of its
sum of exponentials relative to it, less the label's logit — all over every device's columns.
-/
module

public import proofs.«01_k».proof.Proof.Stats

@[expose] public section

noncomputable section

namespace Cert.Own

open Cert.KernelIdeal Cert.KernelIdeal.Gen
open Idealize.ShloMosaic Idealize.ShloMosaic.TcCoe Idealize.SL.Sem

/-! ## The table's columns -/

variable (m : (ℓ : Loc nD τ sig) → Buf (Elt Ideal) ℓ) (c : Dev nD) (r : Fin 256)

/-- What device `d` puts into the tables. -/
abbrev statsOf (d : Dev nD) : FVec Ideal S3x256 .f32 := stats d (xOf m d) (wOf m d) (labOf m d)

theorem packed_at (d : Dev nD) (q : Fin 3) : packed m d (ix3 0 q r) = statsOf m d (ix2 q r) := by
  pointwise [packed, k0_pay14]

theorem tabOf_at (k : Fin 16) (q : Fin 3) : tabOf m c (ix3 k q r) = statsOf m (rowSrc c k.val) (ix2 q r) := by
  refine Eq.trans (congrArg (packed m (rowSrc c k.val)) (funext fun a => Fin.ext ?_)) (packed_at m r (rowSrc c k.val) q)
  match a with
  | ⟨0, _⟩ => rfl
  | ⟨1, _⟩ => rfl
  | ⟨2, _⟩ => rfl

/-- A statistic read down the table. -/
theorem col_at {q : ℕ} (hq : q < 3) (hR : ∀ a, (![0, q, 0] : Fin 3 → ℕ) a + S16x1x256.size a ≤ S16x3x256.size a)
    (f : S16x3x256.Idx → Elt Ideal .bf16) (k : Fin 16) :
    tab.view.readAt (Elt Ideal) (Rect.unit (s := S16x3x256) ![0, q, 0] S16x1x256.size hR).toLoadRect f (ix3 k 0 r) = f (ix3 k ⟨q, hq⟩ r) := by
  refine congrArg f (funext fun a => Fin.ext ?_)
  match a with
  | ⟨0, _⟩ => show 0 + 1 * k.val = k.val; omega
  | ⟨1, _⟩ => show q + 1 * 0 = q; omega
  | ⟨2, _⟩ => show 0 + 1 * r.val = r.val; omega

theorem col0_at (k : Fin 16) : k0_pay15 (col0 (tabOf m c)) (ix2 k r) = statsOf m (rowSrc c k.val) (ix2 0 r) := by
  pointwise [k0_pay15]
  exact (col_at r (q := 0) (by decide) _ _ k).trans (tabOf_at m c r k 0)
theorem col1_at (k : Fin 16) : k0_pay16 (col1 (tabOf m c)) (ix2 k r) = statsOf m (rowSrc c k.val) (ix2 1 r) := by
  pointwise [k0_pay16]
  exact (col_at r (q := 1) (by decide) _ _ k).trans (tabOf_at m c r k 1)
theorem col2_at (k : Fin 16) : k0_pay17 (col2 (tabOf m c)) (ix2 k r) = statsOf m (rowSrc c k.val) (ix2 2 r) := by
  pointwise [k0_pay17]
  exact (col_at r (q := 2) (by decide) _ _ k).trans (tabOf_at m c r k 2)

/-- The rows of a device's table hold every device once. -/
theorem rowSrc_bijective : Function.Bijective fun k : Fin 16 => rowSrc c k.val := by
  refine (Finite.injective_iff_bijective).mp fun a b h => Fin.ext ?_
  have hc : c.val < 16 := c.isLt
  have ha := a.isLt; have hb := b.isLt
  have h' : (c.val + (16 - a.val)) % 16 = (c.val + (16 - b.val)) % 16 := congrArg Fin.val h
  omega

/-- A sum down the table is the sum over the devices, -/
theorem sum_rows (f : Dev nD → EReal) : ∑ k : Fin 16, f (rowSrc c k.val) = ∑ d : Fin 16, f d := (rowSrc_bijective c).sum_comp f

/-- and a maximum the maximum over the devices. -/
theorem max_rows (f : Dev nD → EReal) : (Finset.univ.fold max ⊥ fun k : Fin 16 => f (rowSrc c k.val)) = Finset.univ.sup fun d : Fin 16 => f d := by
  show (Finset.univ.sup fun k : Fin 16 => f (rowSrc c k.val)) = _
  rw [Finset.sup_univ_eq_iSup, Finset.sup_univ_eq_iSup]
  exact (rowSrc_bijective c).surjective.iSup_comp (g := f)

/-! ## The result -/

/-- The last payload at a row. -/
theorem combine_at (a b p : FVec Ideal S16x256 .f32) :
    k0_pay18 a b p (ix1 r) = (Finset.univ.fold max ⊥ fun k => a (ix2 k r))
      + Ideal.log (∑ k, b (ix2 k r) * Ideal.exp (a (ix2 k r) - Finset.univ.fold max ⊥ fun k => a (ix2 k r))) - ∑ k, p (ix2 k r) := by
  pointwise [k0_pay18]
  simp only [bot_f32]

/-- The result of row `r` on any device, where `L` names the row's logits over all devices' columns and `t` its label. -/
theorem out_at (L : ℕ → EReal) (t : ℕ)
    (h : ∀ (d : Dev nD) (j : Fin 4096), ∑ q : Fin 512, xOf m d (ix2 r q) * wOf m d (ix2 q j) = L (d.val * 4096 + j.val))
    (ht : ∀ d : Dev nD, (labOf m d (ix1 r)).toNat = t) :
    outOf m c (ix1 r) = top L 0 65536 + Ideal.log (mass L 0 65536 (top L 0 65536)) - pick L t 0 65536 := by
  have hs := fun d => stats_at L r d (xOf m d) (wOf m d) (labOf m d) (h d)
  have hT : (Finset.univ.fold max ⊥ fun k : Fin 16 => statsOf m (rowSrc c k.val) (ix2 0 r)) = top L 0 65536 := by
    rw [max_rows c fun d => statsOf m d (ix2 0 r)]
    simp only [fun d => (hs d).1]
    exact top_blocks L 4096 16
  unfold outOf
  rw [combine_at]
  simp only [col0_at, col1_at, col2_at]
  rw [hT, sum_rows c fun d => statsOf m d (ix2 2 r),
    sum_rows c fun d => statsOf m d (ix2 1 r) * Ideal.exp (statsOf m d (ix2 0 r) - top L 0 65536)]
  simp only [fun d => (hs d).1, fun d => (hs d).2.1, fun d => (hs d).2.2, ht]
  have hle : ∀ d : Fin 16, top L (d.val * 4096) ((d.val + 1) * 4096) ≤ top L 0 65536 := fun d =>
    Finset.sup_mono (Finset.Ico_subset_Ico (Nat.zero_le _) (by omega))
  have hm : ∑ d : Fin 16, mass L (d.val * 4096) ((d.val + 1) * 4096) (top L (d.val * 4096) ((d.val + 1) * 4096))
      * Ideal.exp (top L (d.val * 4096) ((d.val + 1) * 4096) - top L 0 65536) = mass L 0 65536 (top L 0 65536) :=
    (Finset.sum_congr rfl fun d _ => mass_rescale L _ _ (hle d)).trans (sum_blocks (fun j => Ideal.exp (L j - top L 0 65536)) 4096 16)
  have hp : ∑ d : Fin 16, pick L t (d.val * 4096) ((d.val + 1) * 4096) = pick L t 0 65536 := sum_blocks (fun j => if j = t then L j else 0) 4096 16
  rw [hm, hp]

end Cert.Own

end
-- ==== Proof.Ref.lean ====
/-
What the reference computes over the extended reals, read at a row: the row's maximum, plus the logarithm of its sum of
exponentials relative to it, less the logit its label names.
-/
module

public import proofs.«01_k».proof.Proof.Stats
public import proofs.«01_k».proof.Proof.Gen.ReferenceIdeal.Run

@[expose] public section

noncomputable section

namespace Cert.Own.Ref

open Cert.ReferenceIdeal Cert.ReferenceIdeal.Gen
open Idealize.ShloMosaic Idealize.SL.Sem

/-! ## Picking one element a row -/

/-- Picking, for each row, the element at a row and a column given by two index words: where they name row `a` and
column `b` of the table, that element. -/
theorem pick_at {α : Type} (Z : S256x65536.Idx → α) (ids : IVec S256x2 32) (r a : Fin 256) (b : Fin 65536)
    (ha : ids (ix2 r 0) = BitVec.ofNat 32 a.val) (hb : ids (ix2 r 1) = BitVec.ofNat 32 b.val) :
    Host.gather gather_S256x65536_S256x2_S256_n_01_n_n_01_1_11 Z ids (ix1 r) = Z (ix2 a b) := by
  have la := a.isLt
  have lb := b.isLt
  have toN : ∀ n : ℕ, n < 65536 → (BitVec.ofNat 32 n).toInt.toNat = n := fun n hn => by
    have e : (BitVec.ofNat 32 n).toNat = n := by rw [BitVec.toNat_ofNat]; omega
    rw [BitVec.toInt_eq_toNat_of_lt (by omega), Int.toNat_natCast, e]
  unfold Host.gather
  refine congrArg Z (funext fun k => Fin.ext ?_)
  have hk : k ∈ ([0, 1] : List (Fin S256x65536.rank)) := by
    match k with
    | ⟨0, _⟩ => exact List.mem_cons_self
    | ⟨1, _⟩ => exact List.mem_cons_of_mem _ List.mem_cons_self
  show GatherDims.start _ (ix1 r) ids k + GatherDims.batchCoord _ (ix1 r) k + GatherDims.offCoord _ (ix1 r) k = (ix2 a b k).val
  rw [GatherDims.batchCoord_eq_zero _ _ _ List.not_mem_nil,
    GatherDims.offCoord_eq_zero _ _ _ fun h => ((GatherDims.mem_sKept _ _).mp h).1 hk]
  unfold GatherDims.start
  rw [dif_pos (show k ∈ gather_S256x65536_S256x2_S256_n_01_n_n_01_1_11.startIndexMap from hk)]
  match k with
  | ⟨0, _⟩ =>
    refine (congrArg (fun w : BitVec 32 => min w.toInt.toNat 255) ((congrArg ids (funext fun q => Fin.ext ?_)).trans ha)).trans ?_
    · match q with
      | ⟨0, _⟩ => rfl
      | ⟨1, _⟩ => rfl
    · show min _ 255 = a.val
      rw [toN _ (by omega)]; omega
  | ⟨1, _⟩ =>
    refine (congrArg (fun w : BitVec 32 => min w.toInt.toNat 65535) ((congrArg ids (funext fun q => Fin.ext ?_)).trans hb)).trans ?_
    · match q with
      | ⟨0, _⟩ => rfl
      | ⟨1, _⟩ => rfl
    · show min _ 65535 = b.val
      rw [toN _ (by omega)]; omega

/-! ## The reference's parts -/

/-- All the logits. -/
abbrev logits (X : FVec Ideal S256x512 .f32) (W : FVec Ideal S512x65536 .f32) : FVec Ideal S256x65536 .f32 :=
  Host.dotGeneral dot_S256x512_S512x65536_S256x65536_1_0_0_1_n_n none X W

/-- Each row's maximum, as a column. -/
abbrev peak (Z : FVec Ideal S256x65536 .f32) : FVec Ideal S256x1 .f32 :=
  broadcastInDim S256x1 ![0] bcast_S256_S256x1_0
    (Host.reduce FloatOps.maximumf Z (constant S_ .f32 0xFF800000#32) reducesTo_S256x65536_S256_d1 h_S_)

/-- Each row's logarithm of the sum of exponentials, the maximum taken out and put back. -/
abbrev lse (Z : FVec Ideal S256x65536 .f32) : FVec Ideal S256 .f32 :=
  shapeCast S256 (addf (peak Z) (Host.log (broadcastInDim S256x1 ![0] bcast_S256_S256x1_0
    (Host.reduceAdd (Host.exp (subf Z (broadcastInDim S256x65536 ![0, 1] bcast_S256x1_S256x65536_0_1 (peak Z))))
      (constant S_ .f32 0x00000000#32) reducesTo_S256x65536_S256_d1 h_S_)))) shapeCasts_S256x1_S256

/-- Index words with negative ones counted from the end of an axis of extent `n`. -/
abbrev wrapped (v : IVec S256 32) (n : BitVec 32) : IVec S256 32 :=
  select (cmpi .slt v (broadcastInDim S256 ![] bcast_S_S256 (constantI S_ 32 0#32)))
    (addi v (broadcastInDim S256 ![] bcast_S_S256 (constantI S_ 32 n))) v

/-- The row and column the reference picks for each row. -/
abbrev ids (lab : IVec S256 32) : IVec S256x2 32 :=
  concatenate S256x2 1 [⟨S256x1, broadcastInDim S256x1 ![0] bcast_S256_S256x1_0 (wrapped (iotaInDim S256 32 0) 256#32)⟩,
    ⟨S256x1, broadcastInDim S256x1 ![0] bcast_S256_S256x1_0 (wrapped lab 65536#32)⟩] concatenates_S256x1_S256x1_S256x2_d1

/-- The reference's result. -/
abbrev refOf (X : FVec Ideal S256x512 .f32) (W : FVec Ideal S512x65536 .f32) (lab : IVec S256 32) : FVec Ideal S256 .f32 :=
  subf (lse (logits X W)) (Host.gather gather_S256x65536_S256x2_S256_n_01_n_n_01_1_11 (logits X W) (ids lab))

theorem logits_at (X : FVec Ideal S256x512 .f32) (W : FVec Ideal S512x65536 .f32) (r : Fin 256) (j : Fin 65536) :
    logits X W (ix2 r j) = ∑ q : Fin 512, X (ix2 r q) * W (ix2 q j) := by
  pointwise

/-- A word that is not negative is not wrapped. -/
theorem wrapped_at (v : IVec S256 32) (n : BitVec 32) (r : Fin 256) (h : (v (ix1 r)).toNat < 65536) :
    wrapped v n (ix1 r) = v (ix1 r) := by
  have hn : (v (ix1 r)).slt 0#32 = false := by
    rw [BitVec.slt_eq_decide, decide_eq_false_iff_not, BitVec.toInt_eq_toNat_of_lt (by omega)]
    simp
  pointwise
  show Scalar.select (BitVec.ofBool ((v (ix1 r)).slt 0#32)) _ _ = _
  rw [hn]; rfl

theorem ids_row (lab : IVec S256 32) (r : Fin 256) : ids lab (ix2 r 0) = wrapped (iotaInDim S256 32 0) 256#32 (ix1 r) := by
  pointwise
theorem ids_col (lab : IVec S256 32) (r : Fin 256) : ids lab (ix2 r 1) = wrapped lab 65536#32 (ix1 r) := by
  pointwise

/-- A row's maximum. -/
theorem peak_at (Z : FVec Ideal S256x65536 .f32) (r : Fin 256) :
    peak Z (ix2 r 0) = Finset.univ.fold max ⊥ fun j : Fin 65536 => Z (ix2 r j) := by
  pointwise [bot_f32]

/-- A row's exponentials relative to a column `P` of numbers, summed. -/
theorem expsum_at (Z : FVec Ideal S256x65536 .f32) (P : FVec Ideal S256x1 .f32) (r : Fin 256) :
    Host.reduceAdd (Host.exp (subf Z (broadcastInDim S256x65536 ![0, 1] bcast_S256x1_S256x65536_0_1 P)))
      (constant S_ .f32 0x00000000#32) reducesTo_S256x65536_S256_d1 h_S_ (ix1 r)
      = ∑ j : Fin 65536, Ideal.exp (Z (ix2 r j) - P (ix2 r 0)) := by
  pointwise

/-- A maximum and a logarithm put together, for any column of maxima and any row of sums. -/
theorem join_at (P : FVec Ideal S256x1 .f32) (s : FVec Ideal S256 .f32) (r : Fin 256) :
    shapeCast S256 (addf P (Host.log (broadcastInDim S256x1 ![0] bcast_S256_S256x1_0 s))) shapeCasts_S256x1_S256 (ix1 r)
      = P (ix2 r 0) + Ideal.log (s (ix1 r)) := by
  pointwise

/-- A row's logarithm of the sum of exponentials, where `L` names the row's logits. -/
theorem lse_at (Z : FVec Ideal S256x65536 .f32) (r : Fin 256) (L : ℕ → EReal) (h : ∀ j : Fin 65536, Z (ix2 r j) = L j.val) :
    lse Z (ix1 r) = top L 0 65536 + Ideal.log (mass L 0 65536 (top L 0 65536)) := by
  have e : ∀ {n : ℕ} (f : Fin n → EReal), (∀ j, f j = L j.val) →
      Finset.univ.fold max ⊥ f = top L 0 n ∧ ∀ M, ∑ j, Ideal.exp (f j - M) = mass L 0 n M := fun {n} f hf => by
    have hm := max_axis L 0 n
    have hs := mass_axis L 0 n
    simp only [Nat.zero_add] at hm hs
    rw [show f = fun j : Fin n => L j.val from funext hf]
    exact ⟨hm, hs⟩
  have h2 := e (fun j : Fin 65536 => Z (ix2 r j)) h
  have hp : peak Z (ix2 r 0) = top L 0 65536 := (peak_at Z r).trans h2.1
  rw [lse, join_at, expsum_at, hp, h2.2]

theorem sub_at (a b : FVec Ideal S256 .f32) (r : Fin 256) {u v : EReal} (ha : a (ix1 r) = u) (hb : b (ix1 r) = v) :
    subf a b (ix1 r) = u - v := by
  subst ha hb; rfl

/-- The reference's result at a row whose label names a column, where `L` names the row's logits. -/
theorem ref_at (X : FVec Ideal S256x512 .f32) (W : FVec Ideal S512x65536 .f32) (lab : IVec S256 32) (r : Fin 256)
    (L : ℕ → EReal) (h : ∀ j : Fin 65536, ∑ q : Fin 512, X (ix2 r q) * W (ix2 q j) = L j.val)
    (hl : (lab (ix1 r)).toNat < 65536) :
    refOf X W lab (ix1 r)
      = top L 0 65536 + Ideal.log (mass L 0 65536 (top L 0 65536)) - pick L (lab (ix1 r)).toNat 0 65536 := by
  have hz : ∀ j : Fin 65536, logits X W (ix2 r j) = L j.val := fun j => (logits_at X W r j).trans (h j)
  have hi : (iotaInDim S256 32 0 : IVec S256 32) (ix1 r) = BitVec.ofNat 32 r.val := rfl
  have hr := r.isLt
  have e0 : ids lab (ix2 r 0) = BitVec.ofNat 32 r.val :=
    (ids_row lab r).trans ((wrapped_at _ _ r (by rw [hi, BitVec.toNat_ofNat]; omega)).trans hi)
  have e1 : ids lab (ix2 r 1) = BitVec.ofNat 32 (lab (ix1 r)).toNat :=
    (ids_col lab r).trans ((wrapped_at lab _ r hl).trans (by rw [BitVec.ofNat_toNat, BitVec.setWidth_eq]))
  have e2 := lse_at (logits X W) r L hz
  have e3 := (pick_at (logits X W) (ids lab) r r ⟨_, hl⟩ e0 e1).trans (hz ⟨_, hl⟩)
  exact sub_at _ _ r e2 (e3.trans (pick_of_mem L (Nat.zero_le _) hl).symm)

end Cert.Own.Ref

end
-- ==== Proof.Value.lean ====
/-
The kernel's result beside the reference's: every device of the mesh ends with what the reference computes from the whole
arrays, when every label names a column.
-/
module

public import proofs.«01_k».proof.Defs
public import proofs.«01_k».proof.Proof.Combine
public import proofs.«01_k».proof.Proof.Ref

@[expose] public section

noncomputable section

namespace Cert.Own

open Idealize.ShloMosaic Idealize.ShloMosaic.TcCoe Idealize.SL.Sem
open Cert.KernelIdeal

/-- The precondition's shapes fit, on the kernel's arguments and on the reference's. -/
instance preFacts : Cert.Pre_labels_in_range_KernelIdeal.Facts := ⟨by decide⟩
instance preFactsRef : Cert.Pre_labels_in_range_ReferenceIdeal.Facts := ⟨by decide⟩

/-- A signed word that is at least zero and below 65536 is one of those numbers. -/
theorem word_in_range (w : BitVec 32) (h : IntOp.andi (IntOp.cmpi .sge w 0#32) (IntOp.cmpi .slt w 65536#32) = 1#1) : w.toNat < 65536 := by
  have h' : BitVec.ofBool ((0#32).sle w) &&& BitVec.ofBool (w.slt 65536#32) = 1#1 := h
  have hb : (0#32).sle w = true ∧ w.slt 65536#32 = true := by
    cases h1 : (0#32).sle w <;> cases h2 : w.slt 65536#32 <;> rw [h1, h2] at h' <;> first | exact ⟨rfl, rfl⟩ | exact absurd h' (by decide)
  obtain ⟨h1, h2⟩ := hb
  rw [BitVec.sle_eq_decide, decide_eq_true_iff] at h1
  rw [BitVec.slt_eq_decide, decide_eq_true_iff] at h2
  have e0 : (0#32).toInt = 0 := by decide
  have e1 : (65536#32).toInt = 65536 := by decide
  rw [e0] at h1
  rw [e1] at h2
  have := BitVec.toInt_eq_toNat_cond w
  split at this <;> omega

/-- The precondition read at a row. -/
theorem label_lt (x : FVec Ideal S256x512 .f32) (w : FVec Ideal S512x4096 .f32) (lab : IVec S256 32) (r : Fin 256)
    (h : Cert.Pre_labels_in_range_KernelIdeal.fn (F := Ideal) x w lab = fun _ => 1#1) : (lab (ix1 r)).toNat < 65536 :=
  word_in_range _ ((congrFun h (ix1 r) : _))

/-- A device's block of the weights, read at a column of the block. -/
theorem block_at (W : FVec Ideal Cert.ReferenceIdeal.S512x65536 .f32) (d : Fin 16) (q : Fin 512) (j : Fin 4096)
    (k : Fin 65536) (hk : k.val = d.val * 4096 + j.val) :
    (Layout.block ⟨2, ![512, 4096]⟩ ⟨2, ![512, 65536]⟩ 1 16 d W : FVec Ideal S512x4096 .f32) (ix2 q j) = W (ix2 q k) := by
  rw [Layout.block_apply]
  refine congrArg W (funext fun a => Fin.ext ?_)
  match a with
  | ⟨0, _⟩ => rfl
  | ⟨1, _⟩ => exact hk.symm

/-- A row's logits over all the columns, by the columns' numbers. -/
def rowLogits (X : FVec Ideal S256x512 .f32) (W : FVec Ideal Cert.ReferenceIdeal.S512x65536 .f32) (r : Fin 256) (j : ℕ) : EReal :=
  if h : j < 65536 then ∑ q : Fin 512, X (ix2 r q) * W (ix2 q ⟨j, h⟩) else 0

theorem rowLogits_of (X : FVec Ideal S256x512 .f32) (W : FVec Ideal Cert.ReferenceIdeal.S512x65536 .f32) (r : Fin 256) (j : Fin 65536) :
    rowLogits X W r j.val = ∑ q : Fin 512, X (ix2 r q) * W (ix2 q j) := by
  rw [rowLogits, dif_pos j.isLt]

/-- Every device ends with the reference's result. -/
theorem out_eq_ref (m : (ℓ : Loc nD τ sig) → Buf (Elt Ideal) ℓ) (X : FVec Ideal S256x512 .f32)
    (W : FVec Ideal Cert.ReferenceIdeal.S512x65536 .f32) (lab : IVec S256 32)
    (hX : ∀ d, xOf m d = X) (hW : ∀ d, wOf m d = Layout.block ⟨2, ![512, 4096]⟩ ⟨2, ![512, 65536]⟩ 1 16 d W) (hL : ∀ d, labOf m d = lab)
    (hlab : ∀ r : Fin 256, (lab (ix1 r)).toNat < 65536) (c : Dev nD) : outOf m c = Ref.refOf X W lab := by
  refine funext fun i => ?_
  obtain ⟨r, rfl⟩ : ∃ r : Fin 256, i = ix1 r := ⟨i 0, funext fun a => by match a with | ⟨0, _⟩ => rfl⟩
  rw [Ref.ref_at X W lab r (rowLogits X W r) (fun j => (rowLogits_of X W r j).symm) (hlab r)]
  refine out_at m c r (rowLogits X W r) _ (fun d j => ?_) fun d => by rw [hL]
  have hlt : d.val * 4096 + j.val < 65536 := by have hd : d.val < 16 := d.isLt; have := j.isLt; omega
  rw [rowLogits_of X W r ⟨_, hlt⟩, hX, hW]
  exact Finset.sum_congr rfl fun q _ => congrArg (X (ix2 r q) * ·) (block_at W d q j ⟨_, hlt⟩ rfl)

end Cert.Own

end
-- ==== Proof.lean ====
/- The proof of the certificate: the frames are the run of the whole mesh (Proof/Run.lean) and the reference's
   generated run, their values dropped; the
   algebraic claim is the same two runs, their values compared (Proof/Value.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, keeps its arguments and ends with every semaphore at zero: the mesh's run at
    bit-exact floats, its values dropped. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Cert.Own.run_main (F := Bits) m ρ)

/-- The same at ideal floats. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.Own.run_main (F := Ideal) m ρ)

/-- The reference is a line of host operations: it runs, keeps its arguments, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with what the reference computes from the whole arrays. -/
theorem algebraic : Cert.algebraic_KernelIdeal_ReferenceIdeal_pre_labels_in_range_KernelIdeal := fun m g m' g' hpre hin =>
  have value := fun c => Cert.Own.out_eq_ref m _ _ _ (fun d => (hin d).1) (fun d => (hin d).2.1) (fun d => (hin d).2.2)
    (fun r => ((hin 0).2.2 ▸ Cert.Own.label_lt _ _ _ r (hpre 0) : _)) c
  ⟨_, (θ_run Cert.KernelIdeal.defs _ _).mono
      (fun _ h c => ⟨(h.1 c).2.2.2.trans (value c), (h.1 c).1, (h.1 c).2.1, (h.1 c).2.2.1⟩) (Cert.Own.run_main (F := Ideal) m g),
    (θ_run Cert.ReferenceIdeal.defs _ _).mono (fun _ h => h 0) (Cert.ReferenceIdeal.Value.run (F := Ideal) m' g')⟩

/-- Every claim of this certificate; a frame under the precondition follows from the frame without it. -/
theorem claim : Cert.Claim :=
  ⟨Cert.Kernel.Gen.facts, Cert.KernelIdeal.Gen.facts, Cert.ReferenceIdeal.Gen.facts, Cert.Own.preFacts, Cert.Own.preFactsRef,
    frame_kernel, frame_kernelIdeal, fun m g _ => frame_kernelIdeal m g trivial,
    frame_reference, fun m g _ => frame_reference m g trivial, trivial, algebraic⟩

end Cert.Proof

end
